-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1024x16384 : Shape := ⟨3, ![3, 1024, 16384]⟩
abbrev S8192x13312 : Shape := ⟨2, ![8192, 13312]⟩
abbrev S128x13312 : Shape := ⟨2, ![128, 13312]⟩
abbrev S16384x2 : Shape := ⟨2, ![16384, 2]⟩
abbrev S13312x2 : Shape := ⟨2, ![13312, 2]⟩
abbrev S16384x4 : Shape := ⟨2, ![16384, 4]⟩
abbrev S13312x4 : Shape := ⟨2, ![13312, 4]⟩
abbrev S16384x18 : Shape := ⟨2, ![16384, 18]⟩
abbrev S13312x18 : Shape := ⟨2, ![13312, 18]⟩
abbrev S320 : Shape := ⟨1, ![320]⟩
abbrev S3072x16384 : Shape := ⟨2, ![3072, 16384]⟩
abbrev S286 : Shape := ⟨1, ![286]⟩
abbrev S34 : Shape := ⟨1, ![34]⟩
abbrev S320x1 : Shape := ⟨2, ![320, 1]⟩
abbrev S2x16384 : Shape := ⟨2, ![2, 16384]⟩
abbrev S4x16384 : Shape := ⟨2, ![4, 16384]⟩
abbrev S18x16384 : Shape := ⟨2, ![18, 16384]⟩
abbrev S2x13312 : Shape := ⟨2, ![2, 13312]⟩
abbrev S4x13312 : Shape := ⟨2, ![4, 13312]⟩
abbrev S18x13312 : Shape := ⟨2, ![18, 13312]⟩
abbrev S3072x320 : Shape := ⟨2, ![3072, 320]⟩
abbrev S3072x1024 : Shape := ⟨2, ![3072, 1024]⟩
abbrev S2x1024 : Shape := ⟨2, ![2, 1024]⟩
abbrev S4x1024 : Shape := ⟨2, ![4, 1024]⟩
abbrev S18x1024 : Shape := ⟨2, ![18, 1024]⟩
abbrev S320x3072 : Shape := ⟨2, ![320, 3072]⟩
abbrev S16x1024 : Shape := ⟨2, ![16, 1024]⟩
abbrev S1x1024 : Shape := ⟨2, ![1, 1024]⟩
abbrev S32x1024 : Shape := ⟨2, ![32, 1024]⟩
abbrev S320x1024 : Shape := ⟨2, ![320, 1024]⟩
abbrev S3072x13312 : Shape := ⟨2, ![3072, 13312]⟩
abbrev S512x1024 : Shape := ⟨2, ![512, 1024]⟩
abbrev S8x1024 : Shape := ⟨2, ![8, 1024]⟩
abbrev S1024x1024 : Shape := ⟨2, ![1024, 1024]⟩
abbrev S128x1024 : Shape := ⟨2, ![128, 1024]⟩
abbrev S3x1024x13312 : Shape := ⟨3, ![3, 1024, 13312]⟩

abbrev nBuf : Space → Nat
  | .hbm => 34
  | .vmem => 29
  | .smem => 0
  | _ => 0

abbrev bufTy : (tb : Table) → Fin (tcTables nBuf tb) → BufTy
  | .hbm, ⟨0, _⟩ => ⟨S3x1024x16384, .bf16⟩
  | .hbm, ⟨1, _⟩ => ⟨S8192x13312, .i8⟩
  | .hbm, ⟨2, _⟩ => ⟨S128x13312, .bf16⟩
  | .hbm, ⟨3, _⟩ => ⟨S16384x2, .i8⟩
  | .hbm, ⟨4, _⟩ => ⟨S13312x2, .i8⟩
  | .hbm, ⟨5, _⟩ => ⟨S16384x4, .i32⟩
  | .hbm, ⟨6, _⟩ => ⟨S13312x4, .i32⟩
  | .hbm, ⟨7, _⟩ => ⟨S16384x18, .i32⟩
  | .hbm, ⟨8, _⟩ => ⟨S13312x18, .i32⟩
  | .hbm, ⟨9, _⟩ => ⟨S320, .bf16⟩
  | .hbm, ⟨10, _⟩ => ⟨S320, .bf16⟩
  | .hbm, ⟨11, _⟩ => ⟨S320, .f32⟩
  | .hbm, ⟨12, _⟩ => ⟨S3072x16384, .bf16⟩
  | .hbm, ⟨13, _⟩ => ⟨S286, .bf16⟩
  | .hbm, ⟨14, _⟩ => ⟨S34, .bf16⟩
  | .hbm, ⟨15, _⟩ => ⟨S320, .bf16⟩
  | .hbm, ⟨16, _⟩ => ⟨S320x1, .bf16⟩
  | .hbm, ⟨17, _⟩ => ⟨S286, .bf16⟩
  | .hbm, ⟨18, _⟩ => ⟨S34, .bf16⟩
  | .hbm, ⟨19, _⟩ => ⟨S320, .bf16⟩
  | .hbm, ⟨20, _⟩ => ⟨S320x1, .bf16⟩
  | .hbm, ⟨21, _⟩ => ⟨S286, .f32⟩
  | .hbm, ⟨22, _⟩ => ⟨S34, .f32⟩
  | .hbm, ⟨23, _⟩ => ⟨S320, .f32⟩
  | .hbm, ⟨24, _⟩ => ⟨S320x1, .f32⟩
  | .hbm, ⟨25, _⟩ => ⟨S2x16384, .i8⟩
  | .hbm, ⟨26, _⟩ => ⟨S4x16384, .i32⟩
  | .hbm, ⟨27, _⟩ => ⟨S18x16384, .i32⟩
  | .hbm, ⟨28, _⟩ => ⟨S2x13312, .i8⟩
  | .hbm, ⟨29, _⟩ => ⟨S4x13312, .i32⟩
  | .hbm, ⟨30, _⟩ => ⟨S18x13312, .i32⟩
  | .hbm, ⟨31, _⟩ => ⟨S3072x320, .bf16⟩
  | .hbm, ⟨32, _⟩ => ⟨S3072x13312, .bf16⟩
  | .hbm, ⟨33, _⟩ => ⟨S3x1024x13312, .bf16⟩
  | .local _ .vmem, ⟨0, _⟩ => ⟨S3072x1024, .bf16⟩
  | .local _ .vmem, ⟨1, _⟩ => ⟨S3072x1024, .bf16⟩
  | .local _ .vmem, ⟨2, _⟩ => ⟨S2x1024, .i8⟩
  | .local _ .vmem, ⟨3, _⟩ => ⟨S2x1024, .i8⟩
  | .local _ .vmem, ⟨4, _⟩ => ⟨S4x1024, .i32⟩
  | .local _ .vmem, ⟨5, _⟩ => ⟨S4x1024, .i32⟩
  | .local _ .vmem, ⟨6, _⟩ => ⟨S18x1024, .i32⟩
  | .local _ .vmem, ⟨7, _⟩ => ⟨S18x1024, .i32⟩
  | .local _ .vmem, ⟨8, _⟩ => ⟨S320x1, .bf16⟩
  | .local _ .vmem, ⟨9, _⟩ => ⟨S320x1, .bf16⟩
  | .local _ .vmem, ⟨10, _⟩ => ⟨S320x1, .f32⟩
  | .local _ .vmem, ⟨11, _⟩ => ⟨S3072x320, .bf16⟩
  | .local _ .vmem, ⟨12, _⟩ => ⟨S320x3072, .f32⟩
  | .local _ .vmem, ⟨13, _⟩ => ⟨S3072x1024, .bf16⟩
  | .local _ .vmem, ⟨14, _⟩ => ⟨S3072x1024, .bf16⟩
  | .local _ .vmem, ⟨15, _⟩ => ⟨S512x1024, .i8⟩
  | .local _ .vmem, ⟨16, _⟩ => ⟨S512x1024, .i8⟩
  | .local _ .vmem, ⟨17, _⟩ => ⟨S8x1024, .bf16⟩
  | .local _ .vmem, ⟨18, _⟩ => ⟨S8x1024, .bf16⟩
  | .local _ .vmem, ⟨19, _⟩ => ⟨S3072x320, .bf16⟩
  | .local _ .vmem, ⟨20, _⟩ => ⟨S2x1024, .i8⟩
  | .local _ .vmem, ⟨21, _⟩ => ⟨S2x1024, .i8⟩
  | .local _ .vmem, ⟨22, _⟩ => ⟨S4x1024, .i32⟩
  | .local _ .vmem, ⟨23, _⟩ => ⟨S4x1024, .i32⟩
  | .local _ .vmem, ⟨24, _⟩ => ⟨S18x1024, .i32⟩
  | .local _ .vmem, ⟨25, _⟩ => ⟨S18x1024, .i32⟩
  | .local _ .vmem, ⟨26, _⟩ => ⟨S3072x1024, .bf16⟩
  | .local _ .vmem, ⟨27, _⟩ => ⟨S3072x1024, .bf16⟩
  | .local _ .vmem, ⟨28, _⟩ => ⟨S3072x1024, .f32⟩
  | _, _ => ⟨S3x1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25
abbrev cc1_sem7_1 : DmaSem sig := 26

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_37 : BitVec 32 := 15#32
  let v227 : BitVec 1 := Scalar.cmpi .eq arg0 c15_i32_37
  let v228 : BitVec 32 := Scalar.extui v227
  let c0_i32_38 : BitVec 32 := 0#32
  let v229 : BitVec 1 := Scalar.cmpi .ne v228 c0_i32_38
  v229

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3072x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S18x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S320x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S320x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S320x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x320 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![13, 16], ![false, false]⟩

def k1_cond2 (i : grid1.Coords) : BitVec 1 :=
  let arg1 : BitVec 32 := BitVec.ofNat 32 (i 1).val
  let c15_i32 : BitVec 32 := 15#32
  let v56 : BitVec 1 := Scalar.cmpi .eq arg1 c15_i32
  let v57 : BitVec 32 := Scalar.extui v56
  let c0_i32_18 : BitVec 32 := 0#32
  let v58 : BitVec 1 := Scalar.cmpi .ne v57 c0_i32_18
  v58

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S3072x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x1024 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S3072x320 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2x1024 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S4x1024 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S18x1024 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S3072x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S3x1024x16384 : Shape := ⟨3, ![3, 1024, 16384]⟩
abbrev S8192x13312 : Shape := ⟨2, ![8192, 13312]⟩
abbrev S128x13312 : Shape := ⟨2, ![128, 13312]⟩
abbrev S16384x2 : Shape := ⟨2, ![16384, 2]⟩
abbrev S13312x2 : Shape := ⟨2, ![13312, 2]⟩
abbrev S16384x4 : Shape := ⟨2, ![16384, 4]⟩
abbrev S13312x4 : Shape := ⟨2, ![13312, 4]⟩
abbrev S16384x18 : Shape := ⟨2, ![16384, 18]⟩
abbrev S13312x18 : Shape := ⟨2, ![13312, 18]⟩
abbrev S320 : Shape := ⟨1, ![320]⟩
abbrev S_ : Shape := ⟨0, ![]⟩
abbrev S8192x1x13312 : Shape := ⟨3, ![8192, 1, 13312]⟩
abbrev S8192x2x13312 : Shape := ⟨3, ![8192, 2, 13312]⟩
abbrev S128x128x13312 : Shape := ⟨3, ![128, 128, 13312]⟩
abbrev S128x1x13312 : Shape := ⟨3, ![128, 1, 13312]⟩
abbrev S16384x13312 : Shape := ⟨2, ![16384, 13312]⟩
abbrev S3x1024x13312 : Shape := ⟨3, ![3, 1024, 13312]⟩
abbrev S10 : Shape := ⟨1, ![10]⟩
abbrev S16384x4x1 : Shape := ⟨3, ![16384, 4, 1]⟩
abbrev S1x1x10 : Shape := ⟨3, ![1, 1, 10]⟩
abbrev S16384x4x10 : Shape := ⟨3, ![16384, 4, 10]⟩
abbrev S16384x40 : Shape := ⟨2, ![16384, 40]⟩
abbrev S16384x32 : Shape := ⟨2, ![16384, 32]⟩
abbrev S16 : Shape := ⟨1, ![16]⟩
abbrev S16384x18x1 : Shape := ⟨3, ![16384, 18, 1]⟩
abbrev S1x1x16 : Shape := ⟨3, ![1, 1, 16]⟩
abbrev S16384x18x16 : Shape := ⟨3, ![16384, 18, 16]⟩
abbrev S16384x288 : Shape := ⟨2, ![16384, 288]⟩
abbrev S16384x286 : Shape := ⟨2, ![16384, 286]⟩
abbrev S16384x320 : Shape := ⟨2, ![16384, 320]⟩
abbrev S13312x4x1 : Shape := ⟨3, ![13312, 4, 1]⟩
abbrev S13312x4x10 : Shape := ⟨3, ![13312, 4, 10]⟩
abbrev S13312x40 : Shape := ⟨2, ![13312, 40]⟩
abbrev S13312x32 : Shape := ⟨2, ![13312, 32]⟩
abbrev S13312x18x1 : Shape := ⟨3, ![13312, 18, 1]⟩
abbrev S13312x18x16 : Shape := ⟨3, ![13312, 18, 16]⟩
abbrev S13312x288 : Shape := ⟨2, ![13312, 288]⟩
abbrev S13312x286 : Shape := ⟨2, ![13312, 286]⟩
abbrev S13312x320 : Shape := ⟨2, ![13312, 320]⟩
abbrev S3x1024x320 : Shape := ⟨3, ![3, 1024, 320]⟩
abbrev S1x1x320 : Shape := ⟨3, ![1, 1, 320]⟩

abbrev nBuf : Space → Nat
  | .hbm => 142
  | .vmem => 0
  | .smem => 0
  | _ => 0

abbrev hbmTy0_0 (i : Nat) : BufTy := match i % 128 with
  | 0 => ⟨S3x1024x16384, .bf16⟩
  | 1 => ⟨S8192x13312, .i8⟩
  | 2 => ⟨S128x13312, .bf16⟩
  | 3 => ⟨S16384x2, .i8⟩
  | 4 => ⟨S13312x2, .i8⟩
  | 5 => ⟨S16384x4, .i32⟩
  | 6 => ⟨S13312x4, .i32⟩
  | 7 => ⟨S16384x18, .i32⟩
  | 8 => ⟨S13312x18, .i32⟩
  | 9 => ⟨S320, .bf16⟩
  | 10 => ⟨S320, .bf16⟩
  | 11 => ⟨S320, .f32⟩
  | 12 => ⟨S8192x13312, .i32⟩
  | 13 => ⟨S_, .i32⟩
  | 14 => ⟨S8192x13312, .i32⟩
  | 15 => ⟨S8192x13312, .i32⟩
  | 16 => ⟨S_, .i32⟩
  | 17 => ⟨S8192x13312, .i32⟩
  | 18 => ⟨S8192x13312, .i32⟩
  | 19 => ⟨S8192x1x13312, .i32⟩
  | 20 => ⟨S8192x1x13312, .i32⟩
  | 21 => ⟨S8192x2x13312, .i32⟩
  | 22 => ⟨S_, .i32⟩
  | 23 => ⟨S8192x2x13312, .i32⟩
  | 24 => ⟨S8192x2x13312, .i1⟩
  | 25 => ⟨S_, .i32⟩
  | 26 => ⟨S8192x2x13312, .i32⟩
  | 27 => ⟨S8192x2x13312, .i32⟩
  | 28 => ⟨S8192x2x13312, .i32⟩
  | 29 => ⟨S8192x2x13312, .bf16⟩
  | 30 => ⟨S128x128x13312, .bf16⟩
  | 31 => ⟨S128x1x13312, .bf16⟩
  | 32 => ⟨S128x128x13312, .bf16⟩
  | 33 => ⟨S128x128x13312, .bf16⟩
  | 34 => ⟨S16384x13312, .bf16⟩
  | 35 => ⟨S3x1024x13312, .f32⟩
  | 36 => ⟨S16384x2, .i32⟩
  | 37 => ⟨S16384x2, .bf16⟩
  | 38 => ⟨S10, .i32⟩
  | 39 => ⟨S_, .i32⟩
  | 40 => ⟨S10, .i32⟩
  | 41 => ⟨S10, .i32⟩
  | 42 => ⟨S16384x4x1, .i32⟩
  | 43 => ⟨S1x1x10, .i32⟩
  | 44 => ⟨S16384x4x10, .i32⟩
  | 45 => ⟨S16384x4x10, .i32⟩
  | 46 => ⟨S16384x4x10, .i32⟩
  | 47 => ⟨S_, .i32⟩
  | 48 => ⟨S16384x4x10, .i32⟩
  | 49 => ⟨S16384x4x10, .i32⟩
  | 50 => ⟨S_, .i32⟩
  | 51 => ⟨S16384x4x10, .i32⟩
  | 52 => ⟨S16384x4x10, .i1⟩
  | 53 => ⟨S_, .i32⟩
  | 54 => ⟨S16384x4x10, .i32⟩
  | 55 => ⟨S16384x4x10, .i32⟩
  | 56 => ⟨S16384x4x10, .i32⟩
  | 57 => ⟨S16384x4x10, .bf16⟩
  | 58 => ⟨S16384x40, .bf16⟩
  | 59 => ⟨S16384x32, .bf16⟩
  | 60 => ⟨S16, .i32⟩
  | 61 => ⟨S_, .i32⟩
  | 62 => ⟨S16, .i32⟩
  | 63 => ⟨S16, .i32⟩
  | 64 => ⟨S16384x18x1, .i32⟩
  | 65 => ⟨S1x1x16, .i32⟩
  | 66 => ⟨S16384x18x16, .i32⟩
  | 67 => ⟨S16384x18x16, .i32⟩
  | 68 => ⟨S16384x18x16, .i32⟩
  | 69 => ⟨S_, .i32⟩
  | 70 => ⟨S16384x18x16, .i32⟩
  | 71 => ⟨S16384x18x16, .i32⟩
  | 72 => ⟨S_, .i32⟩
  | 73 => ⟨S16384x18x16, .i32⟩
  | 74 => ⟨S16384x18x16, .i1⟩
  | 75 => ⟨S_, .i32⟩
  | 76 => ⟨S16384x18x16, .i32⟩
  | 77 => ⟨S16384x18x16, .i32⟩
  | 78 => ⟨S16384x18x16, .i32⟩
  | 79 => ⟨S16384x18x16, .bf16⟩
  | 80 => ⟨S16384x288, .bf16⟩
  | 81 => ⟨S16384x286, .bf16⟩
  | 82 => ⟨S16384x320, .bf16⟩
  | 83 => ⟨S13312x2, .i32⟩
  | 84 => ⟨S13312x2, .bf16⟩
  | 85 => ⟨S10, .i32⟩
  | 86 => ⟨S_, .i32⟩
  | 87 => ⟨S10, .i32⟩
  | 88 => ⟨S10, .i32⟩
  | 89 => ⟨S13312x4x1, .i32⟩
  | 90 => ⟨S1x1x10, .i32⟩
  | 91 => ⟨S13312x4x10, .i32⟩
  | 92 => ⟨S13312x4x10, .i32⟩
  | 93 => ⟨S13312x4x10, .i32⟩
  | 94 => ⟨S_, .i32⟩
  | 95 => ⟨S13312x4x10, .i32⟩
  | 96 => ⟨S13312x4x10, .i32⟩
  | 97 => ⟨S_, .i32⟩
  | 98 => ⟨S13312x4x10, .i32⟩
  | 99 => ⟨S13312x4x10, .i1⟩
  | 100 => ⟨S_, .i32⟩
  | 101 => ⟨S13312x4x10, .i32⟩
  | 102 => ⟨S13312x4x10, .i32⟩
  | 103 => ⟨S13312x4x10, .i32⟩
  | 104 => ⟨S13312x4x10, .bf16⟩
  | 105 => ⟨S13312x40, .bf16⟩
  | 106 => ⟨S13312x32, .bf16⟩
  | 107 => ⟨S16, .i32⟩
  | 108 => ⟨S_, .i32⟩
  | 109 => ⟨S16, .i32⟩
  | 110 => ⟨S16, .i32⟩
  | 111 => ⟨S13312x18x1, .i32⟩
  | 112 => ⟨S1x1x16, .i32⟩
  | 113 => ⟨S13312x18x16, .i32⟩
  | 114 => ⟨S13312x18x16, .i32⟩
  | 115 => ⟨S13312x18x16, .i32⟩
  | 116 => ⟨S_, .i32⟩
  | 117 => ⟨S13312x18x16, .i32⟩
  | 118 => ⟨S13312x18x16, .i32⟩
  | 119 => ⟨S_, .i32⟩
  | 120 => ⟨S13312x18x16, .i32⟩
  | 121 => ⟨S13312x18x16, .i1⟩
  | 122 => ⟨S_, .i32⟩
  | 123 => ⟨S13312x18x16, .i32⟩
  | 124 => ⟨S13312x18x16, .i32⟩
  | 125 => ⟨S13312x18x16, .i32⟩
  | 126 => ⟨S13312x18x16, .bf16⟩
  | 127 => ⟨S13312x288, .bf16⟩
  | _ => ⟨S3x1024x16384, .bf16⟩

abbrev hbmTy0_1 (i : Nat) : BufTy := match i % 128 with
  | 0 => ⟨S13312x286, .bf16⟩
  | 1 => ⟨S13312x320, .bf16⟩
  | 2 => ⟨S3x1024x320, .f32⟩
  | 3 => ⟨S320, .f32⟩
  | 4 => ⟨S320, .f32⟩
  | 5 => ⟨S320, .f32⟩
  | 6 => ⟨S320, .f32⟩
  | 7 => ⟨S1x1x320, .f32⟩
  | 8 => ⟨S3x1024x320, .f32⟩
  | 9 => ⟨S3x1024x320, .f32⟩
  | 10 => ⟨S3x1024x320, .bf16⟩
  | 11 => ⟨S3x1024x13312, .f32⟩
  | 12 => ⟨S3x1024x13312, .f32⟩
  | 13 => ⟨S3x1024x13312, .bf16⟩
  | _ => ⟨S3x1024x16384, .bf16⟩

abbrev hbmTy (i : Nat) : BufTy := match i / 128 with
  | 0 => hbmTy0_0 i
  | 1 => hbmTy0_1 i
  | _ => ⟨S3x1024x16384, .bf16⟩

abbrev bufTy : (tb : Table) → Fin (tcTables nBuf tb) → BufTy
  | .hbm, ⟨i, _⟩ => hbmTy i
  | _, _ => ⟨S3x1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_12 : Ref sig .tc := ⟨.hbm, 94, rfl⟩
abbrev main_v69 : Ref sig .tc := ⟨.hbm, 95, rfl⟩
abbrev main_v70 : Ref sig .tc := ⟨.hbm, 96, rfl⟩
abbrev main_c_13 : Ref sig .tc := ⟨.hbm, 97, rfl⟩
abbrev main_v71 : Ref sig .tc := ⟨.hbm, 98, rfl⟩
abbrev main_v72 : Ref sig .tc := ⟨.hbm, 99, rfl⟩
abbrev main_c_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_15 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_16 : Ref sig .tc := ⟨.hbm, 116, rfl⟩
abbrev main_v87 : Ref sig .tc := ⟨.hbm, 117, rfl⟩
abbrev main_v88 : Ref sig .tc := ⟨.hbm, 118, rfl⟩
abbrev main_c_17 : Ref sig .tc := ⟨.hbm, 119, rfl⟩
abbrev main_v89 : Ref sig .tc := ⟨.hbm, 120, rfl⟩
abbrev main_v90 : Ref sig .tc := ⟨.hbm, 121, rfl⟩
abbrev main_c_18 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩

abbrev nD : Nat := 1
abbrev τ : Topo := Topo.v7x

variable {F : FTy → Type} [FloatOps F]
-- ==== Proof.WholeBits.Region0.lean ====
/- THE SHRINK REGION (custom call 0) at its entry contents `V`: the windows' blocks, the body's run in each of its three cases
   (first, middle and last point along the contraction), what each point leaves in the carried accumulator and in the result's
   buffer (`outsAt0`), the invariant that names the accumulator from point to point, and the body's obligation. The text is the library frame generator's, adapted (NOTES.md). -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_shrink` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel

/-! ## The kernel body on any staging memrefs: a subtype the run finds -/

/-- One staging buffer of output window 7, through which its contents are stated (`View.read_writes_of_cover`: the
    choice does not matter). -/
abbrev VO0_7 : View sig .tc .vmem S3072x320 .bf16 := (Memref.whole cc0_stg7_0 : Memref sig .tc .vmem S3072x320 .bf16).view
/-- Each window's current staging memref at point `t`, spelled as the pipeline passes it (`bodyAt0`), and its wholeness. -/
abbrev ms0_0 (t : Fin cfg0.N) : Memref sig .tc .vmem S3072x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S18x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S320x1 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S320x1 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S320x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3072x320 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S320x3072 .f32 := Memref.whole cc0_scratch0
/-- The scratch `arg9` the kernel carries between points, as a view: what it holds is stated through it. -/
abbrev VS0_0 : View sig .tc .vmem S320x3072 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : cond0_0 i) (hc1 : ¬cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) :
    Σ' (L7 : List (View.Piece (Elt F) S3072x320 .bf16)), { LS0 : List (View.Piece (Elt F) S320x3072 .f32) //
      ∀ (xi7 : Vec F S3072x320 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc0_shrink i arg1 harg1 arg2 harg2 arg3 harg3 arg4 harg4 arg5 harg5 arg6 harg6 arg7 harg7 arg8 harg8 arg9 harg9) K } := by
  refine ⟨[], ?_, fun xi7 E K => ?run⟩
  case run =>
    simp only [cc0_shrink_eq_skeleton]; unfold cc0_shrink_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

/-- Case A stores nothing into output 7 (the window is idle at its points and not written back there):
    no pieces — a placeholder (junk read back) that nothing consults, since at these points the window is neither
    written back nor read at the next point (Lib/Pipeline.lean "Idle points"). -/
def out0_A_7 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : cond0_0 i) (hc1 : ¬cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) : Vec F S3072x320 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 hc1 x0 x1 x2 x3 x4 x5 x6).1)

/-- Case A's pieces for scratch `arg9`, which the kernel carries between points, cover it: 2 pieces of `S320x3072` tiling it (Lib/Ring.lean `Piece.tiledL`). -/
theorem scover0_A_0 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : cond0_0 i) (hc1 : ¬cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (y : S320x3072.Idx) :
    ∃ pc ∈ (kernelRun0_A c i arg1 harg1 arg2 harg2 arg3 harg3 arg4 harg4 arg5 harg5 arg6 harg6 arg7 harg7 arg8 harg8 arg9 harg9 hc0 hc1 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4 x5 x6).2.1 S320x3072.size (by sl_kernel_rfl) y

/-- What case A leaves in scratch `arg9`: its pieces read back over junk. -/
def sout0_A_0 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : cond0_0 i) (hc1 : ¬cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) : Vec F S320x3072 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3 x4 x5 x6).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 14: 14 of 16), WITH the
    proof that on whole staging memrefs — the inputs' at their contents, the outputs it leaves idle (7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : ¬cond0_0 i) (hc1 : ¬cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (xs0 : Vec F S320x3072 .f32) :
    Σ' (L7 : List (View.Piece (Elt F) S3072x320 .bf16)), { LS0 : List (View.Piece (Elt F) S320x3072 .f32) //
      ∀ (xi7 : Vec F S3072x320 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc0_shrink i arg1 harg1 arg2 harg2 arg3 harg3 arg4 harg4 arg5 harg5 arg6 harg6 arg7 harg7 arg8 harg8 arg9 harg9) K } := by
  refine ⟨[], ?_, fun xi7 E K => ?run⟩
  case run =>
    simp only [cc0_shrink_eq_skeleton]; unfold cc0_shrink_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

/-- Case B stores nothing into output 7 (the window is idle at its points and not written back there):
    no pieces — a placeholder (junk read back) that nothing consults, since at these points the window is neither
    written back nor read at the next point (Lib/Pipeline.lean "Idle points"). -/
def out0_B_7 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : ¬cond0_0 i) (hc1 : ¬cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (xs0 : Vec F S320x3072 .f32) : Vec F S3072x320 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 hc1 x0 x1 x2 x3 x4 x5 x6 xs0).1)

/-- Case B's pieces for scratch `arg9`, which the kernel carries between points, cover it: 1 piece of `S320x3072` tiling it (Lib/Ring.lean `Piece.tiledL`). -/
theorem scover0_B_0 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : ¬cond0_0 i) (hc1 : ¬cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (xs0 : Vec F S320x3072 .f32) (y : S320x3072.Idx) :
    ∃ pc ∈ (kernelRun0_B c i arg1 harg1 arg2 harg2 arg3 harg3 arg4 harg4 arg5 harg5 arg6 harg6 arg7 harg7 arg8 harg8 arg9 harg9 hc0 hc1 x0 x1 x2 x3 x4 x5 x6 xs0).2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 x5 x6 xs0).2.1 S320x3072.size (by sl_kernel_rfl) y

/-- What case B leaves in scratch `arg9`: its pieces read back over junk. -/
def sout0_B_0 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : ¬cond0_0 i) (hc1 : ¬cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (xs0 : Vec F S320x3072 .f32) : Vec F S320x3072 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x0 x1 x2 x3 x4 x5 x6 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : ¬cond0_0 i) (hc1 : cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (xs0 : Vec F S320x3072 .f32) :
    Σ' (L7 : List (View.Piece (Elt F) S3072x320 .bf16)), { LS0 : List (View.Piece (Elt F) S320x3072 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_shrink i arg1 harg1 arg2 harg2 arg3 harg3 arg4 harg4 arg5 harg5 arg6 harg6 arg7 harg7 arg8 harg8 arg9 harg9) K } := by
  refine ⟨?_, ?_, fun E K => ?run⟩
  case run =>
    simp only [cc0_shrink_eq_skeleton]; unfold cc0_shrink_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS0

/-- Case C's pieces for output 7 tile its block (1 store of `S3072x320`, checked by the kernel's evaluation: Lib/Ring.lean `Piece.tiledL`, linear in the pieces, through a loop's `@[irreducible]` trip theorem too), so they cover it. -/
theorem cover0_C_7 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : ¬cond0_0 i) (hc1 : cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (xs0 : Vec F S320x3072 .f32) (y : S3072x320.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 x6 xs0).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 x6 xs0).1 S3072x320.size (by sl_kernel_rfl) y

/-- What case C leaves in output 7's staging buffer: its pieces read back over junk. -/
def out0_C_7 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : ¬cond0_0 i) (hc1 : cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (xs0 : Vec F S320x3072 .f32) : Vec F S3072x320 .bf16 :=
  VO0_7.read (Elt F) (VO0_7.writes (Elt F) VO0_7.junk (kernelRun0_C c i arg1 harg1 arg2 harg2 arg3 harg3 arg4 harg4 arg5 harg5 arg6 harg6 arg7 harg7 arg8 harg8 arg9 harg9 hc0 hc1 x0 x1 x2 x3 x4 x5 x6 xs0).1)

/-- Case C's pieces for scratch `arg9`, which the kernel carries between points, cover it: 1 piece of `S320x3072` tiling it (Lib/Ring.lean `Piece.tiledL`). -/
theorem scover0_C_0 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : ¬cond0_0 i) (hc1 : cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (xs0 : Vec F S320x3072 .f32) (y : S320x3072.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 x6 xs0).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 x6 xs0).2.1 S320x3072.size (by sl_kernel_rfl) y

/-- What case C leaves in scratch `arg9`: its pieces read back over junk. -/
def sout0_C_0 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : ¬cond0_0 i) (hc1 : cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (xs0 : Vec F S320x3072 .f32) : Vec F S320x3072 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x0 x1 x2 x3 x4 x5 x6 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S3072x320 .bf16 × Vec F S320x3072 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 16 = 0 then
      if h1 : (n + 1) % 16 = 15 then
        False.elim (by have hN : n + 1 < 16 := lt_of_lt_of_eq hn (show cfg0.N = 16 from N_0); omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 16 = 15 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)

/-- `outsAt0` at a point of case A: that case's contents. -/
theorem outsAt0_A (c : Dev nD) (t : Fin cfg0.N) (h0 : t.val % 16 = 0) (h1 : ¬t.val % 16 = 15) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS_0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f)) ∗ (∃ r, prngReg c r))

theorem PhiS_zero_0 (c : Dev nD) (n : ℕ) (h : n ≤ cfg0.N) (hz : n = 0) : PhiS_0 V c n h = Pipeline.ΦA spec0 c := by
  subst hz; rfl

/-- After point `n` (before point `n + 1`): the carried scratch at that point's contents. -/
theorem PhiS_succ_0 (c : Dev nD) (n : ℕ) (hn : n < cfg0.N) :
    PhiS_0 V c (n + 1) hn = iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f)) ∗ (∃ r, prngReg c r)) := rfl

/-- Before a point that is not the first: the carried scratch at what the point before left. -/
theorem PhiS_pos_0 (c : Dev nD) (n : ℕ) (h : n ≤ cfg0.N) (hz : n ≠ 0) :
    PhiS_0 V c n h = iprop(iprop(owns (c : Thread nD τ) scM0_0 fullShare ((outsAt0 V c (n - 1) (by omega)).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f)) ∗ (∃ r, prngReg c r)) := by
  cases n with
  | zero => exact absurd rfl hz
  | succ n => rfl

/-! ## The pipeline's proof data -/

/-- The proof data of pipeline 0 on core `c`: the arrays as the region finds them (`V`); after the body at
    point `t` each input's buffer at its block and the outputs' at `outsAt0`; the invariant the class's
    (`PhiS_0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS_0 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc_0 (c : Dev nD) (t : Fin cfg0.N) :
    (dat0 V c).Φ t.castSucc = PhiS_0 V c t.val (Nat.le_of_lt t.isLt) := by
  dsimp only [dat0]; exact Pipeline.Dat.Φ_castSucc (PhiS_0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos_0`; at anything at the first point, `PhiS_zero_0`), the other scratch buffers and the generator register at some state, and takes the carried scratch back at this point's contents (`PhiS_succ_0`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS_0 V c (t.val + 1) t.isLt from rfl, PhiS_succ_0]
  have hN : t.val < 16 := lt_of_lt_of_eq t.isLt (show cfg0.N = 16 from N_0)
  by_cases h0 : t.val % 16 = 0
  · by_cases h1 : t.val % 16 = 15
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      by_cases hz : t.val = 0
      · rw [PhiS_castSucc_0 V c t, PhiS_zero_0 V c _ _ hz, PhiA0_eq]
        rw [outsAt0_A V c t h0 h1]
        unfold sout0_A_0; (try dsimp only)
        iintro ⟨⟨⟨HS0, HR1, HR2, HR3, HR4, HR5, HR6, HR7, HR8, HR9, HR10, HR11, HR12, HR13, HR14, HR15, HR16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HR1 HR2 HR3 HR4 HR5 HR6 HR7 HR8 HR9 HR10 HR11 HR12 HR13 HR14 HR15 HR16 Hg]
        · isplitl [HS0 HR1 HR2 HR3 HR4 HR5 HR6 HR7 HR8 HR9 HR10 HR11 HR12 HR13 HR14 HR15 HR16]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            iexact HR16
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · exfalso; have hN : t.val < 16 := lt_of_lt_of_eq t.isLt (show cfg0.N = 16 from N_0); omega
  · by_cases h1 : t.val % 16 = 15
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7_C t (fun h => h0 ((hcond0_0 t).mp h)) ((hcond0_1 t).mpr h1)], after0_7]
      by_cases hz : t.val = 0
      · exfalso; have hN : t.val < 16 := lt_of_lt_of_eq t.isLt (show cfg0.N = 16 from N_0); omega
      · rw [PhiS_castSucc_0 V c t, PhiS_pos_0 V c _ _ hz]
        rw [outsAt0_C V c t h0 h1]
        unfold out0_C_7 sout0_C_0; (try dsimp only)
        iintro ⟨⟨⟨HS0, HR1, HR2, HR3, HR4, HR5, HR6, HR7, HR8, HR9, HR10, HR11, HR12, HR13, HR14, HR15, HR16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 HR1 HR2 HR3 HR4 HR5 HR6 HR7 HR8 HR9 HR10 HR11 HR12 HR13 HR14 HR15 HR16 Hg]
        · isplitl [HS0 HR1 HR2 HR3 HR4 HR5 HR6 HR7 HR8 HR9 HR10 HR11 HR12 HR13 HR14 HR15 HR16]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            iexact HR16
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      by_cases hz : t.val = 0
      · exfalso; have hN : t.val < 16 := lt_of_lt_of_eq t.isLt (show cfg0.N = 16 from N_0); omega
      · rw [PhiS_castSucc_0 V c t, PhiS_pos_0 V c _ _ hz]
        rw [outsAt0_B V c t h0 h1]
        unfold sout0_B_0; (try dsimp only)
        iintro ⟨⟨⟨HS0, HR1, HR2, HR3, HR4, HR5, HR6, HR7, HR8, HR9, HR10, HR11, HR12, HR13, HR14, HR15, HR16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HR1 HR2 HR3 HR4 HR5 HR6 HR7 HR8 HR9 HR10 HR11 HR12 HR13 HR14 HR15 HR16 Hg]
        · isplitl [HS0 HR1 HR2 HR3 HR4 HR5 HR6 HR7 HR8 HR9 HR10 HR11 HR12 HR13 HR14 HR15 HR16]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            iexact HR16
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin_0 (c : Dev nD) : Pipeline.ΦA spec0 c ⊢ (dat0 V c).Φ 0 := by
  rw [show (dat0 V c).Φ 0 = PhiS_0 V c 0 (Nat.zero_le _) from rfl, PhiS_zero_0 V c 0 _ rfl]
  try exact Idealize.SL.BI.Entails.refl _

/-- After any point but the first the invariant gives `ΦA` back: the carried scratch's named contents are forgotten. -/
theorem Phi_out_0 (c : Dev nD) (t : Fin (cfg0.N + 1)) (ht : t.val ≠ 0) : (dat0 V c).Φ t ⊢ Pipeline.ΦA spec0 c := by
  rw [show (dat0 V c).Φ t = PhiS_0 V c t.val (Nat.le_of_lt_succ t.isLt) from rfl, PhiS_pos_0 V c _ _ ht, PhiA0_eq]
  iintro ⟨⟨HS0, HR1, HR2, HR3, HR4, HR5, HR6, HR7, HR8, HR9, HR10, HR11, HR12, HR13, HR14, HR15, HR16⟩, Hg⟩
  isplitl [HS0 HR1 HR2 HR3 HR4 HR5 HR6 HR7 HR8 HR9 HR10 HR11 HR12 HR13 HR14 HR15 HR16]
  · isplitl [HS0]
    · iexists _; iexact HS0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    iexact HR16
  iexact Hg

/-- The same after the last point. -/
theorem hout_0 (c : Dev nD) : (dat0 V c).Φ (Fin.last cfg0.N) ⊢ Pipeline.ΦA spec0 c :=
  Phi_out_0 V c _ (by rw [Fin.val_last]; have : cfg0.N = 16 := N_0; omega)

end Regions

end Cert.Kernel.Gen

end
-- ==== Proof.WholeBits.Region1.lean ====
/- THE EXPAND REGION (custom call 1) at its entry contents `V`: the windows' blocks, the body's run in each of its three cases
   (first, middle and last point along the contraction), what each point leaves in the carried accumulator and in the result's
   buffer (`outsAt1`), the invariant that names the accumulator from point to point, and the body's obligation. The text is the library frame generator's, adapted (NOTES.md). -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_expand` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 16) — by arithmetic of the point. -/
theorem hcond1_0 : ∀ t : Fin cfg1.N, cond1_0 (grid1.coords t) ↔ t.val % 16 = 0 :=
  (fun t => by
    have ht : t.val < 208 := Nat.lt_of_lt_of_eq t.isLt N_1
    have e0 : (grid1.coords t 0).val = t.val / 16 % 13 := Pipeline.Grid.coords_val t 0 (by decide) rfl
    have e1 : (grid1.coords t 1).val = t.val / 1 % 16 := Pipeline.Grid.coords_val t 1 (by decide) rfl
    simp only [cond1_0, e0, e1]
    word_cmp
   : ∀ t : Fin grid1.N, cond1_0 (grid1.coords t) ↔ t.val % 16 = 0)

/-- The condition of the body's `scf.if` 1 (`k1_h2`), from the grid coordinates (the skeleton's scalar
    chain substituted). -/
abbrev cond1_1 (i : grid1.Coords) : Prop := k1_cond2 i = 1#1
/-- It holds at the points ≡ 15 (mod 16) — by arithmetic of the point. -/
theorem hcond1_1 : ∀ t : Fin cfg1.N, cond1_1 (grid1.coords t) ↔ t.val % 16 = 15 :=
  (fun t => by
    have ht : t.val < 208 := Nat.lt_of_lt_of_eq t.isLt N_1
    have e0 : (grid1.coords t 0).val = t.val / 16 % 13 := Pipeline.Grid.coords_val t 0 (by decide) rfl
    have e1 : (grid1.coords t 1).val = t.val / 1 % 16 := Pipeline.Grid.coords_val t 1 (by decide) rfl
    simp only [cond1_1, k1_cond2, e0, e1]
    word_cmp
   : ∀ t : Fin grid1.N, cond1_1 (grid1.coords t) ↔ t.val % 16 = 15)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- At the points of case A the printed configuration (`Cfg.idle`) calls output 7 idle: the case stores nothing into it. -/
theorem idleAt1_7_A : ∀ t : Fin cfg1.N, cond1_0 (grid1.coords t) → ¬cond1_1 (grid1.coords t) → cfg1.idle 7 (grid1.coords t) = true := by decide +kernel
/-- At the points of case A the pipeline does not write output 7's block back. -/
theorem noFlush1_7_A : ∀ t : Fin cfg1.N, cond1_0 (grid1.coords t) → ¬cond1_1 (grid1.coords t) → (cfg1.win 7).flush t = false := by decide +kernel
/-- At the points of case B the printed configuration (`Cfg.idle`) calls output 7 idle: the case stores nothing into it. -/
theorem idleAt1_7_B : ∀ t : Fin cfg1.N, ¬cond1_0 (grid1.coords t) → ¬cond1_1 (grid1.coords t) → cfg1.idle 7 (grid1.coords t) = true := by decide +kernel
/-- At the points of case B the pipeline does not write output 7's block back. -/
theorem noFlush1_7_B : ∀ t : Fin cfg1.N, ¬cond1_0 (grid1.coords t) → ¬cond1_1 (grid1.coords t) → (cfg1.win 7).flush t = false := by decide +kernel
/-- At the points of case C the printed configuration (`Cfg.idle`) calls output 7 live: the case stores into it. -/
theorem liveAt1_7_C : ∀ t : Fin cfg1.N, ¬cond1_0 (grid1.coords t) → cond1_1 (grid1.coords t) → cfg1.idle 7 (grid1.coords t) = false := by decide +kernel

/-! ## The kernel body on any staging memrefs: a subtype the run finds -/

/-- One staging buffer of output window 7, through which its contents are stated (`View.read_writes_of_cover`: the
    choice does not matter). -/
abbrev VO1_7 : View sig .tc .vmem S3072x1024 .bf16 := (Memref.whole cc1_stg7_0 : Memref sig .tc .vmem S3072x1024 .bf16).view
/-- Each window's current staging memref at point `t`, spelled as the pipeline passes it (`bodyAt1`), and its wholeness. -/
abbrev ms1_0 (t : Fin cfg1.N) : Memref sig .tc .vmem S3072x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3072x320 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x1024 .i8 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4x1024 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S18x1024 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S3072x1024 .bf16 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S3072x1024 .f32 := Memref.whole cc1_scratch0
/-- The scratch `arg10` the kernel carries between points, as a view: what it holds is stated through it. -/
abbrev VS1_0 : View sig .tc .vmem S3072x1024 .f32 := scM1_0.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 16, … 192: 13 of 208), WITH the
    proof that on whole staging memrefs — the inputs' at their contents, the outputs it leaves idle (7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : cond1_0 i) (hc1 : ¬cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) :
    Σ' (L7 : List (View.Piece (Elt F) S3072x1024 .bf16)), { LS0 : List (View.Piece (Elt F) S3072x1024 .f32) //
      ∀ (xi7 : Vec F S3072x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1_expand i arg2 harg2 arg3 harg3 arg4 harg4 arg5 harg5 arg6 harg6 arg7 harg7 arg8 harg8 arg9 harg9 arg10 harg10) K } := by
  refine ⟨[], ?_, fun xi7 E K => ?run⟩
  case run =>
    simp only [cc1_expand_eq_skeleton]; unfold cc1_expand_skel
    simp only [k1_part5_eq_skeleton, k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

/-- Case A stores nothing into output 7 (the window is idle at its points and not written back there):
    no pieces — a placeholder (junk read back) that nothing consults, since at these points the window is neither
    written back nor read at the next point (Lib/Pipeline.lean "Idle points"). -/
def out1_A_7 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : cond1_0 i) (hc1 : ¬cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) : Vec F S3072x1024 .bf16 :=
  VO1_7.read (Elt F) (VO1_7.writes (Elt F) VO1_7.junk (kernelRun1_A c i arg2 harg2 arg3 harg3 arg4 harg4 arg5 harg5 arg6 harg6 arg7 harg7 arg8 harg8 arg9 harg9 arg10 harg10 hc0 hc1 x0 x1 x2 x3 x4 x5 x6).1)

/-- Case A's pieces for scratch `arg10`, which the kernel carries between points, cover it: 2 pieces of `S3072x1024` tiling it (Lib/Ring.lean `Piece.tiledL`). -/
theorem scover1_A_0 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : cond1_0 i) (hc1 : ¬cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (y : S3072x1024.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5 x6).2.1 S3072x1024.size (by sl_kernel_rfl) y

/-- What case A leaves in scratch `arg10`: its pieces read back over junk. -/
def sout1_A_0 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : cond1_0 i) (hc1 : ¬cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) : Vec F S3072x1024 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4 x5 x6).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 206: 182 of 208), WITH the
    proof that on whole staging memrefs — the inputs' at their contents, the outputs it leaves idle (7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : ¬cond1_0 i) (hc1 : ¬cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (xs0 : Vec F S3072x1024 .f32) :
    Σ' (L7 : List (View.Piece (Elt F) S3072x1024 .bf16)), { LS0 : List (View.Piece (Elt F) S3072x1024 .f32) //
      ∀ (xi7 : Vec F S3072x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1_expand i arg2 harg2 arg3 harg3 arg4 harg4 arg5 harg5 arg6 harg6 arg7 harg7 arg8 harg8 arg9 harg9 arg10 harg10) K } := by
  refine ⟨[], ?_, fun xi7 E K => ?run⟩
  case run =>
    simp only [cc1_expand_eq_skeleton]; unfold cc1_expand_skel
    simp only [k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

/-- Case B stores nothing into output 7 (the window is idle at its points and not written back there):
    no pieces — a placeholder (junk read back) that nothing consults, since at these points the window is neither
    written back nor read at the next point (Lib/Pipeline.lean "Idle points"). -/
def out1_B_7 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : ¬cond1_0 i) (hc1 : ¬cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (xs0 : Vec F S3072x1024 .f32) : Vec F S3072x1024 .bf16 :=
  VO1_7.read (Elt F) (VO1_7.writes (Elt F) VO1_7.junk (kernelRun1_B c i arg2 harg2 arg3 harg3 arg4 harg4 arg5 harg5 arg6 harg6 arg7 harg7 arg8 harg8 arg9 harg9 arg10 harg10 hc0 hc1 x0 x1 x2 x3 x4 x5 x6 xs0).1)

/-- Case B's pieces for scratch `arg10`, which the kernel carries between points, cover it: 1 piece of `S3072x1024` tiling it (Lib/Ring.lean `Piece.tiledL`). -/
theorem scover1_B_0 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : ¬cond1_0 i) (hc1 : ¬cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (xs0 : Vec F S3072x1024 .f32) (y : S3072x1024.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 x6 xs0).2.1 S3072x1024.size (by sl_kernel_rfl) y

/-- What case B leaves in scratch `arg10`: its pieces read back over junk. -/
def sout1_B_0 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : ¬cond1_0 i) (hc1 : ¬cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (xs0 : Vec F S3072x1024 .f32) : Vec F S3072x1024 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 x5 x6 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15, 31, … 207: 13 of 208), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : ¬cond1_0 i) (hc1 : cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (xs0 : Vec F S3072x1024 .f32) :
    Σ' (L7 : List (View.Piece (Elt F) S3072x1024 .bf16)), { LS0 : List (View.Piece (Elt F) S3072x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1_expand i arg2 harg2 arg3 harg3 arg4 harg4 arg5 harg5 arg6 harg6 arg7 harg7 arg8 harg8 arg9 harg9 arg10 harg10) K } := by
  refine ⟨?_, ?_, fun E K => ?run⟩
  case run =>
    simp only [cc1_expand_eq_skeleton]; unfold cc1_expand_skel
    simp only [k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

/-- Case C's pieces for output 7 tile its block (1 store of `S3072x1024`, checked by the kernel's evaluation: Lib/Ring.lean `Piece.tiledL`, linear in the pieces, through a loop's `@[irreducible]` trip theorem too), so they cover it. -/
theorem cover1_C_7 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : ¬cond1_0 i) (hc1 : cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (xs0 : Vec F S3072x1024 .f32) (y : S3072x1024.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 x6 xs0).1 S3072x1024.size (by sl_kernel_rfl) y

/-- What case C leaves in output 7's staging buffer: its pieces read back over junk. -/
def out1_C_7 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : ¬cond1_0 i) (hc1 : cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (xs0 : Vec F S3072x1024 .f32) : Vec F S3072x1024 .bf16 :=
  VO1_7.read (Elt F) (VO1_7.writes (Elt F) VO1_7.junk (kernelRun1_C c i arg2 harg2 arg3 harg3 arg4 harg4 arg5 harg5 arg6 harg6 arg7 harg7 arg8 harg8 arg9 harg9 arg10 harg10 hc0 hc1 x0 x1 x2 x3 x4 x5 x6 xs0).1)

/-- Case C's pieces for scratch `arg10`, which the kernel carries between points, cover it: 1 piece of `S3072x1024` tiling it (Lib/Ring.lean `Piece.tiledL`). -/
theorem scover1_C_0 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : ¬cond1_0 i) (hc1 : cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (xs0 : Vec F S3072x1024 .f32) (y : S3072x1024.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 x6 xs0).2.1 S3072x1024.size (by sl_kernel_rfl) y

/-- What case C leaves in scratch `arg10`: its pieces read back over junk. -/
def sout1_C_0 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : ¬cond1_0 i) (hc1 : cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (xs0 : Vec F S3072x1024 .f32) : Vec F S3072x1024 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 x5 x6 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S3072x1024 .bf16 × Vec F S3072x1024 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 16 = 0 then
      if h1 : (n + 1) % 16 = 15 then
        False.elim (by have hN : n + 1 < 208 := lt_of_lt_of_eq hn (show cfg1.N = 208 from N_1); omega)
      else
        (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 16 = 15 then
        (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
      else
        (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

/-- `outsAt1` at a point of case A: that case's contents. -/
theorem outsAt1_A (c : Dev nD) (t : Fin cfg1.N) (h0 : t.val % 16 = 0) (h1 : ¬t.val % 16 = 15) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 16 = 0) (h1 : ¬t.val % 16 = 15) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 16 = 0) (h1 : t.val % 16 = 15) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS_1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS_zero_1 (c : Dev nD) (n : ℕ) (h : n ≤ cfg1.N) (hz : n = 0) : PhiS_1 V c n h = Pipeline.ΦA spec1 c := by
  subst hz; rfl

/-- After point `n` (before point `n + 1`): the carried scratch at that point's contents. -/
theorem PhiS_succ_1 (c : Dev nD) (n : ℕ) (hn : n < cfg1.N) :
    PhiS_1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

/-- Before a point that is not the first: the carried scratch at what the point before left. -/
theorem PhiS_pos_1 (c : Dev nD) (n : ℕ) (h : n ≤ cfg1.N) (hz : n ≠ 0) :
    PhiS_1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS_1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS_1 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc_1 (c : Dev nD) (t : Fin cfg1.N) :
    (dat1 V c).Φ t.castSucc = PhiS_1 V c t.val (Nat.le_of_lt t.isLt) := by
  dsimp only [dat1]; exact Pipeline.Dat.Φ_castSucc (PhiS_1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 9600000 in
/-- The body at any point: the inputs' memrefs hold their blocks (`before1_W`); the closed forms say which case the point is in (`by_cases`), an output the case reads before covering holds what the point before left (`before1_W_κ`); so the
    run applies; the invariant hands the body the carried scratch at what the point before left (`PhiS_pos_1`; at anything at the first point, `PhiS_zero_1`), the other scratch buffers and the generator register at some state, and takes the carried scratch back at this point's contents (`PhiS_succ_1`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS_1 V c (t.val + 1) t.isLt from rfl, PhiS_succ_1]
  have hN : t.val < 208 := lt_of_lt_of_eq t.isLt (show cfg1.N = 208 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      by_cases hz : t.val = 0
      · rw [PhiS_castSucc_1 V c t, PhiS_zero_1 V c _ _ hz, PhiA1_eq]
        rw [outsAt1_A V c t h0 h1]
        unfold sout1_A_0; (try dsimp only)
        iintro ⟨⟨⟨HR0, HR1, HR2, HR3, HR4, HR5, HR6, HR7, HR8, HR9, HR10, HR11, HR12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HR0 HR1 HR2 HR3 HR4 HR5 HR6 HR7 HR8 HR9 HR10 HR11 HR12 HS0 Hg]
        · isplitl [HR0 HR1 HR2 HR3 HR4 HR5 HR6 HR7 HR8 HR9 HR10 HR11 HR12 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS_castSucc_1 V c t, PhiS_pos_1 V c _ _ hz]
        rw [outsAt1_A V c t h0 h1]
        unfold sout1_A_0; (try dsimp only)
        iintro ⟨⟨⟨HR0, HR1, HR2, HR3, HR4, HR5, HR6, HR7, HR8, HR9, HR10, HR11, HR12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HR0 HR1 HR2 HR3 HR4 HR5 HR6 HR7 HR8 HR9 HR10 HR11 HR12 HS0 Hg]
        · isplitl [HR0 HR1 HR2 HR3 HR4 HR5 HR6 HR7 HR8 HR9 HR10 HR11 HR12 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 16 = 15
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7_C t (fun h => h0 ((hcond1_0 t).mp h)) ((hcond1_1 t).mpr h1)], after1_7]
      by_cases hz : t.val = 0
      · exfalso; have hN : t.val < 208 := lt_of_lt_of_eq t.isLt (show cfg1.N = 208 from N_1); omega
      · rw [PhiS_castSucc_1 V c t, PhiS_pos_1 V c _ _ hz]
        rw [outsAt1_C V c t h0 h1]
        unfold out1_C_7 sout1_C_0; (try dsimp only)
        iintro ⟨⟨⟨HR0, HR1, HR2, HR3, HR4, HR5, HR6, HR7, HR8, HR9, HR10, HR11, HR12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HR0 HR1 HR2 HR3 HR4 HR5 HR6 HR7 HR8 HR9 HR10 HR11 HR12 HS0 Hg]
        · isplitl [HR0 HR1 HR2 HR3 HR4 HR5 HR6 HR7 HR8 HR9 HR10 HR11 HR12 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover1_C_7 c _ _ _ _ _ _ _ _ _ _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      by_cases hz : t.val = 0
      · exfalso; have hN : t.val < 208 := lt_of_lt_of_eq t.isLt (show cfg1.N = 208 from N_1); omega
      · rw [PhiS_castSucc_1 V c t, PhiS_pos_1 V c _ _ hz]
        rw [outsAt1_B V c t h0 h1]
        unfold sout1_B_0; (try dsimp only)
        iintro ⟨⟨⟨HR0, HR1, HR2, HR3, HR4, HR5, HR6, HR7, HR8, HR9, HR10, HR11, HR12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HR0 HR1 HR2 HR3 HR4 HR5 HR6 HR7 HR8 HR9 HR10 HR11 HR12 HS0 Hg]
        · isplitl [HR0 HR1 HR2 HR3 HR4 HR5 HR6 HR7 HR8 HR9 HR10 HR11 HR12 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin_1 (c : Dev nD) : Pipeline.ΦA spec1 c ⊢ (dat1 V c).Φ 0 := by
  rw [show (dat1 V c).Φ 0 = PhiS_1 V c 0 (Nat.zero_le _) from rfl, PhiS_zero_1 V c 0 _ rfl]
  try exact Idealize.SL.BI.Entails.refl _

/-- After any point but the first the invariant gives `ΦA` back: the carried scratch's named contents are forgotten. -/
theorem Phi_out_1 (c : Dev nD) (t : Fin (cfg1.N + 1)) (ht : t.val ≠ 0) : (dat1 V c).Φ t ⊢ Pipeline.ΦA spec1 c := by
  rw [show (dat1 V c).Φ t = PhiS_1 V c t.val (Nat.le_of_lt_succ t.isLt) from rfl, PhiS_pos_1 V c _ _ ht, PhiA1_eq]
  iintro ⟨⟨HR0, HR1, HR2, HR3, HR4, HR5, HR6, HR7, HR8, HR9, HR10, HR11, HR12, HS0⟩, Hg⟩
  isplitl [HR0 HR1 HR2 HR3 HR4 HR5 HR6 HR7 HR8 HR9 HR10 HR11 HR12 HS0]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    iexists _; iexact HS0
  iexact Hg

/-- The same after the last point. -/
theorem hout_1 (c : Dev nD) : (dat1 V c).Φ (Fin.last cfg1.N) ⊢ Pipeline.ΦA spec1 c :=
  Phi_out_1 V c _ (by rw [Fin.val_last]; have : cfg1.N = 208 := N_1; omega)

end Regions

end Cert.Kernel.Gen

end
-- ==== Proof.WholeBits.Hosts0.lean ====
/- THE HOST STRETCHES: what the operations before, between and after the two regions write. The text is the library frame generator's, adapted (NOTES.md). -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10, main_v11, main_v12, main_v13, main_v14, main_v15, main_v16, main_v17, main_v18]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v21]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

end Cert.Kernel.Gen

end
-- ==== Proof.WholeBits.Fold0.lean ====
/- THE BUFFER CONTENTS at each segment boundary, a fold from the launch memory, and the arguments read back through it. The text is the library frame generator's, adapted (NOTES.md). -/
module

public import proofs.«01_k».proof.Proof.WholeBits.Region0
public import proofs.«01_k».proof.Proof.WholeBits.Region1
public import proofs.«01_k».proof.Proof.WholeBits.Hosts0

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)
theorem W4_main_arg10 (c : Dev nD) : W4 m ρ c (Proc.devRef .tc main_arg10) = m ((c : Thread nD τ).loc main_arg10) :=
  W4_args m ρ c main_arg10 (by decide)
theorem W4_main_arg11 (c : Dev nD) : W4 m ρ c (Proc.devRef .tc main_arg11) = m ((c : Thread nD τ).loc main_arg11) :=
  W4_args m ρ c main_arg11 (by decide)
end Cert.Kernel.Gen

end
-- ==== Proof.WholeBits.State.lean ====
/- THE PROOF DATA of the two pipelines and the state that rides through the segments. The text is the library frame generator's, adapted (NOTES.md). -/
module

public import proofs.«01_k».proof.Proof.WholeBits.Fold0

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

end Cert.Kernel.Gen

end
-- ==== Proof.WholeBits.Record0.lean ====
/- THE SHRINK REGION as a segment of @main. The text is the library frame generator's, adapted (NOTES.md). -/
module

public import proofs.«01_k».proof.Proof.WholeBits.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin_0 (V1 m ρ) c); unfold Pipeline.ΦA
    iintro ⟨Hp, -, Hr⟩
    isplitl [Hr]; · iexact Hr
    iexact Hp
  hout c := by
    rw [Pipeline.ownSems0_none]; refine BIBase.Entails.trans (hout_0 (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.WholeBits.Record1.lean ====
/- THE EXPAND REGION as a segment of @main. The text is the library frame generator's, adapted (NOTES.md). -/
module

public import proofs.«01_k».proof.Proof.WholeBits.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin_1 (V2 m ρ) c); unfold Pipeline.ΦA
    iintro ⟨Hp, -, Hr⟩
    isplitl [Hr]; · iexact Hr
    iexact Hp
  hout c := by
    rw [Pipeline.ownSems0_none]; refine BIBase.Entails.trans (hout_1 (V2 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.WholeBits.Frame.lean ====
/- THE RUN of @main: two regions among host stretches. Every final state holds the last boundary's contents in every unscoped
   buffer (`run_whole`); the arguments end as launched and every counter ends at zero (`frame`). The text is the library frame generator's, adapted (NOTES.md). -/
module

public import proofs.«01_k».proof.Proof.WholeBits.Record0
public import proofs.«01_k».proof.Proof.WholeBits.Record1

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- At the compiled mesh, from any memory with zero counters: every weakly fair execution of @main on the TensorCores terminates,
    nothing faulting, and every final state has every unscoped buffer at the last boundary's contents `W4` and every semaphore
    counter at zero. -/
theorem run_whole : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME: the argument arrays end as launched and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r hr => ⟨(fun c =>
      ⟨(hr.1 c _ (mem_uc main_arg0 (by decide))).trans (W4_main_arg0 m ρ c),
       (hr.1 c _ (mem_uc main_arg1 (by decide))).trans (W4_main_arg1 m ρ c),
       (hr.1 c _ (mem_uc main_arg2 (by decide))).trans (W4_main_arg2 m ρ c),
       (hr.1 c _ (mem_uc main_arg3 (by decide))).trans (W4_main_arg3 m ρ c),
       (hr.1 c _ (mem_uc main_arg4 (by decide))).trans (W4_main_arg4 m ρ c),
       (hr.1 c _ (mem_uc main_arg5 (by decide))).trans (W4_main_arg5 m ρ c),
       (hr.1 c _ (mem_uc main_arg6 (by decide))).trans (W4_main_arg6 m ρ c),
       (hr.1 c _ (mem_uc main_arg7 (by decide))).trans (W4_main_arg7 m ρ c),
       (hr.1 c _ (mem_uc main_arg8 (by decide))).trans (W4_main_arg8 m ρ c),
       (hr.1 c _ (mem_uc main_arg9 (by decide))).trans (W4_main_arg9 m ρ c),
       (hr.1 c _ (mem_uc main_arg10 (by decide))).trans (W4_main_arg10 m ρ c),
       (hr.1 c _ (mem_uc main_arg11 (by decide))).trans (W4_main_arg11 m ρ c)⟩), hr.2⟩) (run_whole m ρ)

end Cert.Kernel.Gen

end
-- ==== Proof.WholeIdeal.Region0.lean ====
/- THE SHRINK REGION (custom call 0) at its entry contents `V`: the windows' blocks, the body's run in each of its three cases
   (first, middle and last point along the contraction), what each point leaves in the carried accumulator and in the result's
   buffer (`outsAt0`), the invariant that names the accumulator from point to point, and the body's obligation. The text is the library frame generator's, adapted (NOTES.md). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_shrink` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel

/-! ## The kernel body on any staging memrefs: a subtype the run finds -/

/-- One staging buffer of output window 7, through which its contents are stated (`View.read_writes_of_cover`: the
    choice does not matter). -/
abbrev VO0_7 : View sig .tc .vmem S3072x320 .bf16 := (Memref.whole cc0_stg7_0 : Memref sig .tc .vmem S3072x320 .bf16).view
/-- Each window's current staging memref at point `t`, spelled as the pipeline passes it (`bodyAt0`), and its wholeness. -/
abbrev ms0_0 (t : Fin cfg0.N) : Memref sig .tc .vmem S3072x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S18x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S320x1 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S320x1 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S320x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3072x320 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S320x3072 .f32 := Memref.whole cc0_scratch0
/-- The scratch `arg9` the kernel carries between points, as a view: what it holds is stated through it. -/
abbrev VS0_0 : View sig .tc .vmem S320x3072 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : cond0_0 i) (hc1 : ¬cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) :
    Σ' (L7 : List (View.Piece (Elt F) S3072x320 .bf16)), { LS0 : List (View.Piece (Elt F) S320x3072 .f32) //
      ∀ (xi7 : Vec F S3072x320 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc0_shrink i arg1 harg1 arg2 harg2 arg3 harg3 arg4 harg4 arg5 harg5 arg6 harg6 arg7 harg7 arg8 harg8 arg9 harg9) K } := by
  refine ⟨[], ?_, fun xi7 E K => ?run⟩
  case run =>
    simp only [cc0_shrink_eq_skeleton]; unfold cc0_shrink_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

/-- Case A stores nothing into output 7 (the window is idle at its points and not written back there):
    no pieces — a placeholder (junk read back) that nothing consults, since at these points the window is neither
    written back nor read at the next point (Lib/Pipeline.lean "Idle points"). -/
def out0_A_7 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : cond0_0 i) (hc1 : ¬cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) : Vec F S3072x320 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 hc1 x0 x1 x2 x3 x4 x5 x6).1)

/-- Case A's pieces for scratch `arg9`, which the kernel carries between points, cover it: 2 pieces of `S320x3072` tiling it (Lib/Ring.lean `Piece.tiledL`). -/
theorem scover0_A_0 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : cond0_0 i) (hc1 : ¬cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (y : S320x3072.Idx) :
    ∃ pc ∈ (kernelRun0_A c i arg1 harg1 arg2 harg2 arg3 harg3 arg4 harg4 arg5 harg5 arg6 harg6 arg7 harg7 arg8 harg8 arg9 harg9 hc0 hc1 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4 x5 x6).2.1 S320x3072.size (by sl_kernel_rfl) y

/-- What case A leaves in scratch `arg9`: its pieces read back over junk. -/
def sout0_A_0 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : cond0_0 i) (hc1 : ¬cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) : Vec F S320x3072 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3 x4 x5 x6).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 14: 14 of 16), WITH the
    proof that on whole staging memrefs — the inputs' at their contents, the outputs it leaves idle (7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : ¬cond0_0 i) (hc1 : ¬cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (xs0 : Vec F S320x3072 .f32) :
    Σ' (L7 : List (View.Piece (Elt F) S3072x320 .bf16)), { LS0 : List (View.Piece (Elt F) S320x3072 .f32) //
      ∀ (xi7 : Vec F S3072x320 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc0_shrink i arg1 harg1 arg2 harg2 arg3 harg3 arg4 harg4 arg5 harg5 arg6 harg6 arg7 harg7 arg8 harg8 arg9 harg9) K } := by
  refine ⟨[], ?_, fun xi7 E K => ?run⟩
  case run =>
    simp only [cc0_shrink_eq_skeleton]; unfold cc0_shrink_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

/-- Case B stores nothing into output 7 (the window is idle at its points and not written back there):
    no pieces — a placeholder (junk read back) that nothing consults, since at these points the window is neither
    written back nor read at the next point (Lib/Pipeline.lean "Idle points"). -/
def out0_B_7 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : ¬cond0_0 i) (hc1 : ¬cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (xs0 : Vec F S320x3072 .f32) : Vec F S3072x320 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 hc1 x0 x1 x2 x3 x4 x5 x6 xs0).1)

/-- Case B's pieces for scratch `arg9`, which the kernel carries between points, cover it: 1 piece of `S320x3072` tiling it (Lib/Ring.lean `Piece.tiledL`). -/
theorem scover0_B_0 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : ¬cond0_0 i) (hc1 : ¬cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (xs0 : Vec F S320x3072 .f32) (y : S320x3072.Idx) :
    ∃ pc ∈ (kernelRun0_B c i arg1 harg1 arg2 harg2 arg3 harg3 arg4 harg4 arg5 harg5 arg6 harg6 arg7 harg7 arg8 harg8 arg9 harg9 hc0 hc1 x0 x1 x2 x3 x4 x5 x6 xs0).2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 x5 x6 xs0).2.1 S320x3072.size (by sl_kernel_rfl) y

/-- What case B leaves in scratch `arg9`: its pieces read back over junk. -/
def sout0_B_0 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : ¬cond0_0 i) (hc1 : ¬cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (xs0 : Vec F S320x3072 .f32) : Vec F S320x3072 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x0 x1 x2 x3 x4 x5 x6 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : ¬cond0_0 i) (hc1 : cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (xs0 : Vec F S320x3072 .f32) :
    Σ' (L7 : List (View.Piece (Elt F) S3072x320 .bf16)), { LS0 : List (View.Piece (Elt F) S320x3072 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_shrink i arg1 harg1 arg2 harg2 arg3 harg3 arg4 harg4 arg5 harg5 arg6 harg6 arg7 harg7 arg8 harg8 arg9 harg9) K } := by
  refine ⟨?_, ?_, fun E K => ?run⟩
  case run =>
    simp only [cc0_shrink_eq_skeleton]; unfold cc0_shrink_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS0

/-- Case C's pieces for output 7 tile its block (1 store of `S3072x320`, checked by the kernel's evaluation: Lib/Ring.lean `Piece.tiledL`, linear in the pieces, through a loop's `@[irreducible]` trip theorem too), so they cover it. -/
theorem cover0_C_7 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : ¬cond0_0 i) (hc1 : cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (xs0 : Vec F S320x3072 .f32) (y : S3072x320.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 x6 xs0).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 x6 xs0).1 S3072x320.size (by sl_kernel_rfl) y

/-- What case C leaves in output 7's staging buffer: its pieces read back over junk. -/
def out0_C_7 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : ¬cond0_0 i) (hc1 : cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (xs0 : Vec F S320x3072 .f32) : Vec F S3072x320 .bf16 :=
  VO0_7.read (Elt F) (VO0_7.writes (Elt F) VO0_7.junk (kernelRun0_C c i arg1 harg1 arg2 harg2 arg3 harg3 arg4 harg4 arg5 harg5 arg6 harg6 arg7 harg7 arg8 harg8 arg9 harg9 hc0 hc1 x0 x1 x2 x3 x4 x5 x6 xs0).1)

/-- Case C's pieces for scratch `arg9`, which the kernel carries between points, cover it: 1 piece of `S320x3072` tiling it (Lib/Ring.lean `Piece.tiledL`). -/
theorem scover0_C_0 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : ¬cond0_0 i) (hc1 : cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (xs0 : Vec F S320x3072 .f32) (y : S320x3072.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 x6 xs0).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 x6 xs0).2.1 S320x3072.size (by sl_kernel_rfl) y

/-- What case C leaves in scratch `arg9`: its pieces read back over junk. -/
def sout0_C_0 (c : Dev nD) (i : grid0.Coords) (arg1 : Memref sig .tc .vmem S3072x1024 .bf16) (harg1 : arg1.IsWhole) (arg2 : Memref sig .tc .vmem S2x1024 .i8) (harg2 : arg2.IsWhole) (arg3 : Memref sig .tc .vmem S4x1024 .i32) (harg3 : arg3.IsWhole) (arg4 : Memref sig .tc .vmem S18x1024 .i32) (harg4 : arg4.IsWhole) (arg5 : Memref sig .tc .vmem S320x1 .bf16) (harg5 : arg5.IsWhole) (arg6 : Memref sig .tc .vmem S320x1 .bf16) (harg6 : arg6.IsWhole) (arg7 : Memref sig .tc .vmem S320x1 .f32) (harg7 : arg7.IsWhole) (arg8 : Memref sig .tc .vmem S3072x320 .bf16) (harg8 : arg8.IsWhole) (arg9 : Memref sig .tc .vmem S320x3072 .f32) (harg9 : arg9.IsWhole) (hc0 : ¬cond0_0 i) (hc1 : cond0_1 i)
    (x0 : Vec F S3072x1024 .bf16) (x1 : Vec F S2x1024 .i8) (x2 : Vec F S4x1024 .i32) (x3 : Vec F S18x1024 .i32) (x4 : Vec F S320x1 .bf16) (x5 : Vec F S320x1 .bf16) (x6 : Vec F S320x1 .f32) (xs0 : Vec F S320x3072 .f32) : Vec F S320x3072 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x0 x1 x2 x3 x4 x5 x6 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S3072x320 .bf16 × Vec F S320x3072 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 16 = 0 then
      if h1 : (n + 1) % 16 = 15 then
        False.elim (by have hN : n + 1 < 16 := lt_of_lt_of_eq hn (show cfg0.N = 16 from N_0); omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 16 = 15 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)

/-- `outsAt0` at a point of case A: that case's contents. -/
theorem outsAt0_A (c : Dev nD) (t : Fin cfg0.N) (h0 : t.val % 16 = 0) (h1 : ¬t.val % 16 = 15) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS_0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f)) ∗ (∃ r, prngReg c r))

theorem PhiS_zero_0 (c : Dev nD) (n : ℕ) (h : n ≤ cfg0.N) (hz : n = 0) : PhiS_0 V c n h = Pipeline.ΦA spec0 c := by
  subst hz; rfl

/-- After point `n` (before point `n + 1`): the carried scratch at that point's contents. -/
theorem PhiS_succ_0 (c : Dev nD) (n : ℕ) (hn : n < cfg0.N) :
    PhiS_0 V c (n + 1) hn = iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f)) ∗ (∃ r, prngReg c r)) := rfl

/-- Before a point that is not the first: the carried scratch at what the point before left. -/
theorem PhiS_pos_0 (c : Dev nD) (n : ℕ) (h : n ≤ cfg0.N) (hz : n ≠ 0) :
    PhiS_0 V c n h = iprop(iprop(owns (c : Thread nD τ) scM0_0 fullShare ((outsAt0 V c (n - 1) (by omega)).2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f)) ∗ (∃ r, prngReg c r)) := by
  cases n with
  | zero => exact absurd rfl hz
  | succ n => rfl

/-! ## The pipeline's proof data -/

/-- The proof data of pipeline 0 on core `c`: the arrays as the region finds them (`V`); after the body at
    point `t` each input's buffer at its block and the outputs' at `outsAt0`; the invariant the class's
    (`PhiS_0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS_0 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc_0 (c : Dev nD) (t : Fin cfg0.N) :
    (dat0 V c).Φ t.castSucc = PhiS_0 V c t.val (Nat.le_of_lt t.isLt) := by
  dsimp only [dat0]; exact Pipeline.Dat.Φ_castSucc (PhiS_0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos_0`; at anything at the first point, `PhiS_zero_0`), the other scratch buffers and the generator register at some state, and takes the carried scratch back at this point's contents (`PhiS_succ_0`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS_0 V c (t.val + 1) t.isLt from rfl, PhiS_succ_0]
  have hN : t.val < 16 := lt_of_lt_of_eq t.isLt (show cfg0.N = 16 from N_0)
  by_cases h0 : t.val % 16 = 0
  · by_cases h1 : t.val % 16 = 15
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      by_cases hz : t.val = 0
      · rw [PhiS_castSucc_0 V c t, PhiS_zero_0 V c _ _ hz, PhiA0_eq]
        rw [outsAt0_A V c t h0 h1]
        unfold sout0_A_0; (try dsimp only)
        iintro ⟨⟨⟨HS0, HR1, HR2, HR3, HR4, HR5, HR6, HR7, HR8, HR9, HR10, HR11, HR12, HR13, HR14, HR15, HR16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HR1 HR2 HR3 HR4 HR5 HR6 HR7 HR8 HR9 HR10 HR11 HR12 HR13 HR14 HR15 HR16 Hg]
        · isplitl [HS0 HR1 HR2 HR3 HR4 HR5 HR6 HR7 HR8 HR9 HR10 HR11 HR12 HR13 HR14 HR15 HR16]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            iexact HR16
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · exfalso; have hN : t.val < 16 := lt_of_lt_of_eq t.isLt (show cfg0.N = 16 from N_0); omega
  · by_cases h1 : t.val % 16 = 15
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7_C t (fun h => h0 ((hcond0_0 t).mp h)) ((hcond0_1 t).mpr h1)], after0_7]
      by_cases hz : t.val = 0
      · exfalso; have hN : t.val < 16 := lt_of_lt_of_eq t.isLt (show cfg0.N = 16 from N_0); omega
      · rw [PhiS_castSucc_0 V c t, PhiS_pos_0 V c _ _ hz]
        rw [outsAt0_C V c t h0 h1]
        unfold out0_C_7 sout0_C_0; (try dsimp only)
        iintro ⟨⟨⟨HS0, HR1, HR2, HR3, HR4, HR5, HR6, HR7, HR8, HR9, HR10, HR11, HR12, HR13, HR14, HR15, HR16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 HR1 HR2 HR3 HR4 HR5 HR6 HR7 HR8 HR9 HR10 HR11 HR12 HR13 HR14 HR15 HR16 Hg]
        · isplitl [HS0 HR1 HR2 HR3 HR4 HR5 HR6 HR7 HR8 HR9 HR10 HR11 HR12 HR13 HR14 HR15 HR16]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            iexact HR16
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      by_cases hz : t.val = 0
      · exfalso; have hN : t.val < 16 := lt_of_lt_of_eq t.isLt (show cfg0.N = 16 from N_0); omega
      · rw [PhiS_castSucc_0 V c t, PhiS_pos_0 V c _ _ hz]
        rw [outsAt0_B V c t h0 h1]
        unfold sout0_B_0; (try dsimp only)
        iintro ⟨⟨⟨HS0, HR1, HR2, HR3, HR4, HR5, HR6, HR7, HR8, HR9, HR10, HR11, HR12, HR13, HR14, HR15, HR16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HR1 HR2 HR3 HR4 HR5 HR6 HR7 HR8 HR9 HR10 HR11 HR12 HR13 HR14 HR15 HR16 Hg]
        · isplitl [HS0 HR1 HR2 HR3 HR4 HR5 HR6 HR7 HR8 HR9 HR10 HR11 HR12 HR13 HR14 HR15 HR16]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            iexact HR16
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin_0 (c : Dev nD) : Pipeline.ΦA spec0 c ⊢ (dat0 V c).Φ 0 := by
  rw [show (dat0 V c).Φ 0 = PhiS_0 V c 0 (Nat.zero_le _) from rfl, PhiS_zero_0 V c 0 _ rfl]
  try exact Idealize.SL.BI.Entails.refl _

/-- After any point but the first the invariant gives `ΦA` back: the carried scratch's named contents are forgotten. -/
theorem Phi_out_0 (c : Dev nD) (t : Fin (cfg0.N + 1)) (ht : t.val ≠ 0) : (dat0 V c).Φ t ⊢ Pipeline.ΦA spec0 c := by
  rw [show (dat0 V c).Φ t = PhiS_0 V c t.val (Nat.le_of_lt_succ t.isLt) from rfl, PhiS_pos_0 V c _ _ ht, PhiA0_eq]
  iintro ⟨⟨HS0, HR1, HR2, HR3, HR4, HR5, HR6, HR7, HR8, HR9, HR10, HR11, HR12, HR13, HR14, HR15, HR16⟩, Hg⟩
  isplitl [HS0 HR1 HR2 HR3 HR4 HR5 HR6 HR7 HR8 HR9 HR10 HR11 HR12 HR13 HR14 HR15 HR16]
  · isplitl [HS0]
    · iexists _; iexact HS0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    iexact HR16
  iexact Hg

/-- The same after the last point. -/
theorem hout_0 (c : Dev nD) : (dat0 V c).Φ (Fin.last cfg0.N) ⊢ Pipeline.ΦA spec0 c :=
  Phi_out_0 V c _ (by rw [Fin.val_last]; have : cfg0.N = 16 := N_0; omega)

end Regions

end Cert.KernelIdeal.Gen

end
-- ==== Proof.WholeIdeal.Region1.lean ====
/- THE EXPAND REGION (custom call 1) at its entry contents `V`: the windows' blocks, the body's run in each of its three cases
   (first, middle and last point along the contraction), what each point leaves in the carried accumulator and in the result's
   buffer (`outsAt1`), the invariant that names the accumulator from point to point, and the body's obligation. The text is the library frame generator's, adapted (NOTES.md). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_expand` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 16) — by arithmetic of the point. -/
theorem hcond1_0 : ∀ t : Fin cfg1.N, cond1_0 (grid1.coords t) ↔ t.val % 16 = 0 :=
  (fun t => by
    have ht : t.val < 208 := Nat.lt_of_lt_of_eq t.isLt N_1
    have e0 : (grid1.coords t 0).val = t.val / 16 % 13 := Pipeline.Grid.coords_val t 0 (by decide) rfl
    have e1 : (grid1.coords t 1).val = t.val / 1 % 16 := Pipeline.Grid.coords_val t 1 (by decide) rfl
    simp only [cond1_0, e0, e1]
    word_cmp
   : ∀ t : Fin grid1.N, cond1_0 (grid1.coords t) ↔ t.val % 16 = 0)

/-- The condition of the body's `scf.if` 1 (`k1_h2`), from the grid coordinates (the skeleton's scalar
    chain substituted). -/
abbrev cond1_1 (i : grid1.Coords) : Prop := k1_cond2 i = 1#1
/-- It holds at the points ≡ 15 (mod 16) — by arithmetic of the point. -/
theorem hcond1_1 : ∀ t : Fin cfg1.N, cond1_1 (grid1.coords t) ↔ t.val % 16 = 15 :=
  (fun t => by
    have ht : t.val < 208 := Nat.lt_of_lt_of_eq t.isLt N_1
    have e0 : (grid1.coords t 0).val = t.val / 16 % 13 := Pipeline.Grid.coords_val t 0 (by decide) rfl
    have e1 : (grid1.coords t 1).val = t.val / 1 % 16 := Pipeline.Grid.coords_val t 1 (by decide) rfl
    simp only [cond1_1, k1_cond2, e0, e1]
    word_cmp
   : ∀ t : Fin grid1.N, cond1_1 (grid1.coords t) ↔ t.val % 16 = 15)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- At the points of case A the printed configuration (`Cfg.idle`) calls output 7 idle: the case stores nothing into it. -/
theorem idleAt1_7_A : ∀ t : Fin cfg1.N, cond1_0 (grid1.coords t) → ¬cond1_1 (grid1.coords t) → cfg1.idle 7 (grid1.coords t) = true := by decide +kernel
/-- At the points of case A the pipeline does not write output 7's block back. -/
theorem noFlush1_7_A : ∀ t : Fin cfg1.N, cond1_0 (grid1.coords t) → ¬cond1_1 (grid1.coords t) → (cfg1.win 7).flush t = false := by decide +kernel
/-- At the points of case B the printed configuration (`Cfg.idle`) calls output 7 idle: the case stores nothing into it. -/
theorem idleAt1_7_B : ∀ t : Fin cfg1.N, ¬cond1_0 (grid1.coords t) → ¬cond1_1 (grid1.coords t) → cfg1.idle 7 (grid1.coords t) = true := by decide +kernel
/-- At the points of case B the pipeline does not write output 7's block back. -/
theorem noFlush1_7_B : ∀ t : Fin cfg1.N, ¬cond1_0 (grid1.coords t) → ¬cond1_1 (grid1.coords t) → (cfg1.win 7).flush t = false := by decide +kernel
/-- At the points of case C the printed configuration (`Cfg.idle`) calls output 7 live: the case stores into it. -/
theorem liveAt1_7_C : ∀ t : Fin cfg1.N, ¬cond1_0 (grid1.coords t) → cond1_1 (grid1.coords t) → cfg1.idle 7 (grid1.coords t) = false := by decide +kernel

/-! ## The kernel body on any staging memrefs: a subtype the run finds -/

/-- One staging buffer of output window 7, through which its contents are stated (`View.read_writes_of_cover`: the
    choice does not matter). -/
abbrev VO1_7 : View sig .tc .vmem S3072x1024 .bf16 := (Memref.whole cc1_stg7_0 : Memref sig .tc .vmem S3072x1024 .bf16).view
/-- Each window's current staging memref at point `t`, spelled as the pipeline passes it (`bodyAt1`), and its wholeness. -/
abbrev ms1_0 (t : Fin cfg1.N) : Memref sig .tc .vmem S3072x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3072x320 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x1024 .i8 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4x1024 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S18x1024 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S3072x1024 .bf16 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S3072x1024 .f32 := Memref.whole cc1_scratch0
/-- The scratch `arg10` the kernel carries between points, as a view: what it holds is stated through it. -/
abbrev VS1_0 : View sig .tc .vmem S3072x1024 .f32 := scM1_0.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 16, … 192: 13 of 208), WITH the
    proof that on whole staging memrefs — the inputs' at their contents, the outputs it leaves idle (7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : cond1_0 i) (hc1 : ¬cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) :
    Σ' (L7 : List (View.Piece (Elt F) S3072x1024 .bf16)), { LS0 : List (View.Piece (Elt F) S3072x1024 .f32) //
      ∀ (xi7 : Vec F S3072x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1_expand i arg2 harg2 arg3 harg3 arg4 harg4 arg5 harg5 arg6 harg6 arg7 harg7 arg8 harg8 arg9 harg9 arg10 harg10) K } := by
  refine ⟨[], ?_, fun xi7 E K => ?run⟩
  case run =>
    simp only [cc1_expand_eq_skeleton]; unfold cc1_expand_skel
    simp only [k1_part5_eq_skeleton, k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

/-- Case A stores nothing into output 7 (the window is idle at its points and not written back there):
    no pieces — a placeholder (junk read back) that nothing consults, since at these points the window is neither
    written back nor read at the next point (Lib/Pipeline.lean "Idle points"). -/
def out1_A_7 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : cond1_0 i) (hc1 : ¬cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) : Vec F S3072x1024 .bf16 :=
  VO1_7.read (Elt F) (VO1_7.writes (Elt F) VO1_7.junk (kernelRun1_A c i arg2 harg2 arg3 harg3 arg4 harg4 arg5 harg5 arg6 harg6 arg7 harg7 arg8 harg8 arg9 harg9 arg10 harg10 hc0 hc1 x0 x1 x2 x3 x4 x5 x6).1)

/-- Case A's pieces for scratch `arg10`, which the kernel carries between points, cover it: 2 pieces of `S3072x1024` tiling it (Lib/Ring.lean `Piece.tiledL`). -/
theorem scover1_A_0 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : cond1_0 i) (hc1 : ¬cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (y : S3072x1024.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5 x6).2.1 S3072x1024.size (by sl_kernel_rfl) y

/-- What case A leaves in scratch `arg10`: its pieces read back over junk. -/
def sout1_A_0 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : cond1_0 i) (hc1 : ¬cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) : Vec F S3072x1024 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4 x5 x6).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 206: 182 of 208), WITH the
    proof that on whole staging memrefs — the inputs' at their contents, the outputs it leaves idle (7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : ¬cond1_0 i) (hc1 : ¬cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (xs0 : Vec F S3072x1024 .f32) :
    Σ' (L7 : List (View.Piece (Elt F) S3072x1024 .bf16)), { LS0 : List (View.Piece (Elt F) S3072x1024 .f32) //
      ∀ (xi7 : Vec F S3072x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1_expand i arg2 harg2 arg3 harg3 arg4 harg4 arg5 harg5 arg6 harg6 arg7 harg7 arg8 harg8 arg9 harg9 arg10 harg10) K } := by
  refine ⟨[], ?_, fun xi7 E K => ?run⟩
  case run =>
    simp only [cc1_expand_eq_skeleton]; unfold cc1_expand_skel
    simp only [k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

/-- Case B stores nothing into output 7 (the window is idle at its points and not written back there):
    no pieces — a placeholder (junk read back) that nothing consults, since at these points the window is neither
    written back nor read at the next point (Lib/Pipeline.lean "Idle points"). -/
def out1_B_7 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : ¬cond1_0 i) (hc1 : ¬cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (xs0 : Vec F S3072x1024 .f32) : Vec F S3072x1024 .bf16 :=
  VO1_7.read (Elt F) (VO1_7.writes (Elt F) VO1_7.junk (kernelRun1_B c i arg2 harg2 arg3 harg3 arg4 harg4 arg5 harg5 arg6 harg6 arg7 harg7 arg8 harg8 arg9 harg9 arg10 harg10 hc0 hc1 x0 x1 x2 x3 x4 x5 x6 xs0).1)

/-- Case B's pieces for scratch `arg10`, which the kernel carries between points, cover it: 1 piece of `S3072x1024` tiling it (Lib/Ring.lean `Piece.tiledL`). -/
theorem scover1_B_0 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : ¬cond1_0 i) (hc1 : ¬cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (xs0 : Vec F S3072x1024 .f32) (y : S3072x1024.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 x6 xs0).2.1 S3072x1024.size (by sl_kernel_rfl) y

/-- What case B leaves in scratch `arg10`: its pieces read back over junk. -/
def sout1_B_0 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : ¬cond1_0 i) (hc1 : ¬cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (xs0 : Vec F S3072x1024 .f32) : Vec F S3072x1024 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 x5 x6 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15, 31, … 207: 13 of 208), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : ¬cond1_0 i) (hc1 : cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (xs0 : Vec F S3072x1024 .f32) :
    Σ' (L7 : List (View.Piece (Elt F) S3072x1024 .bf16)), { LS0 : List (View.Piece (Elt F) S3072x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1_expand i arg2 harg2 arg3 harg3 arg4 harg4 arg5 harg5 arg6 harg6 arg7 harg7 arg8 harg8 arg9 harg9 arg10 harg10) K } := by
  refine ⟨?_, ?_, fun E K => ?run⟩
  case run =>
    simp only [cc1_expand_eq_skeleton]; unfold cc1_expand_skel
    simp only [k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

/-- Case C's pieces for output 7 tile its block (1 store of `S3072x1024`, checked by the kernel's evaluation: Lib/Ring.lean `Piece.tiledL`, linear in the pieces, through a loop's `@[irreducible]` trip theorem too), so they cover it. -/
theorem cover1_C_7 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : ¬cond1_0 i) (hc1 : cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (xs0 : Vec F S3072x1024 .f32) (y : S3072x1024.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 x6 xs0).1 S3072x1024.size (by sl_kernel_rfl) y

/-- What case C leaves in output 7's staging buffer: its pieces read back over junk. -/
def out1_C_7 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : ¬cond1_0 i) (hc1 : cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (xs0 : Vec F S3072x1024 .f32) : Vec F S3072x1024 .bf16 :=
  VO1_7.read (Elt F) (VO1_7.writes (Elt F) VO1_7.junk (kernelRun1_C c i arg2 harg2 arg3 harg3 arg4 harg4 arg5 harg5 arg6 harg6 arg7 harg7 arg8 harg8 arg9 harg9 arg10 harg10 hc0 hc1 x0 x1 x2 x3 x4 x5 x6 xs0).1)

/-- Case C's pieces for scratch `arg10`, which the kernel carries between points, cover it: 1 piece of `S3072x1024` tiling it (Lib/Ring.lean `Piece.tiledL`). -/
theorem scover1_C_0 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : ¬cond1_0 i) (hc1 : cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (xs0 : Vec F S3072x1024 .f32) (y : S3072x1024.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 x6 xs0).2.1 S3072x1024.size (by sl_kernel_rfl) y

/-- What case C leaves in scratch `arg10`: its pieces read back over junk. -/
def sout1_C_0 (c : Dev nD) (i : grid1.Coords) (arg2 : Memref sig .tc .vmem S3072x1024 .bf16) (harg2 : arg2.IsWhole) (arg3 : Memref sig .tc .vmem S512x1024 .i8) (harg3 : arg3.IsWhole) (arg4 : Memref sig .tc .vmem S8x1024 .bf16) (harg4 : arg4.IsWhole) (arg5 : Memref sig .tc .vmem S3072x320 .bf16) (harg5 : arg5.IsWhole) (arg6 : Memref sig .tc .vmem S2x1024 .i8) (harg6 : arg6.IsWhole) (arg7 : Memref sig .tc .vmem S4x1024 .i32) (harg7 : arg7.IsWhole) (arg8 : Memref sig .tc .vmem S18x1024 .i32) (harg8 : arg8.IsWhole) (arg9 : Memref sig .tc .vmem S3072x1024 .bf16) (harg9 : arg9.IsWhole) (arg10 : Memref sig .tc .vmem S3072x1024 .f32) (harg10 : arg10.IsWhole) (hc0 : ¬cond1_0 i) (hc1 : cond1_1 i)
    (x0 : Vec F S3072x1024 .bf16) (x1 : Vec F S512x1024 .i8) (x2 : Vec F S8x1024 .bf16) (x3 : Vec F S3072x320 .bf16) (x4 : Vec F S2x1024 .i8) (x5 : Vec F S4x1024 .i32) (x6 : Vec F S18x1024 .i32) (xs0 : Vec F S3072x1024 .f32) : Vec F S3072x1024 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 x5 x6 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S3072x1024 .bf16 × Vec F S3072x1024 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 16 = 0 then
      if h1 : (n + 1) % 16 = 15 then
        False.elim (by have hN : n + 1 < 208 := lt_of_lt_of_eq hn (show cfg1.N = 208 from N_1); omega)
      else
        (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 16 = 15 then
        (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
      else
        (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

/-- `outsAt1` at a point of case A: that case's contents. -/
theorem outsAt1_A (c : Dev nD) (t : Fin cfg1.N) (h0 : t.val % 16 = 0) (h1 : ¬t.val % 16 = 15) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 16 = 0) (h1 : ¬t.val % 16 = 15) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 16 = 0) (h1 : t.val % 16 = 15) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS_1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS_zero_1 (c : Dev nD) (n : ℕ) (h : n ≤ cfg1.N) (hz : n = 0) : PhiS_1 V c n h = Pipeline.ΦA spec1 c := by
  subst hz; rfl

/-- After point `n` (before point `n + 1`): the carried scratch at that point's contents. -/
theorem PhiS_succ_1 (c : Dev nD) (n : ℕ) (hn : n < cfg1.N) :
    PhiS_1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

/-- Before a point that is not the first: the carried scratch at what the point before left. -/
theorem PhiS_pos_1 (c : Dev nD) (n : ℕ) (h : n ≤ cfg1.N) (hz : n ≠ 0) :
    PhiS_1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS_1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS_1 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc_1 (c : Dev nD) (t : Fin cfg1.N) :
    (dat1 V c).Φ t.castSucc = PhiS_1 V c t.val (Nat.le_of_lt t.isLt) := by
  dsimp only [dat1]; exact Pipeline.Dat.Φ_castSucc (PhiS_1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 9600000 in
/-- The body at any point: the inputs' memrefs hold their blocks (`before1_W`); the closed forms say which case the point is in (`by_cases`), an output the case reads before covering holds what the point before left (`before1_W_κ`); so the
    run applies; the invariant hands the body the carried scratch at what the point before left (`PhiS_pos_1`; at anything at the first point, `PhiS_zero_1`), the other scratch buffers and the generator register at some state, and takes the carried scratch back at this point's contents (`PhiS_succ_1`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS_1 V c (t.val + 1) t.isLt from rfl, PhiS_succ_1]
  have hN : t.val < 208 := lt_of_lt_of_eq t.isLt (show cfg1.N = 208 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      by_cases hz : t.val = 0
      · rw [PhiS_castSucc_1 V c t, PhiS_zero_1 V c _ _ hz, PhiA1_eq]
        rw [outsAt1_A V c t h0 h1]
        unfold sout1_A_0; (try dsimp only)
        iintro ⟨⟨⟨HR0, HR1, HR2, HR3, HR4, HR5, HR6, HR7, HR8, HR9, HR10, HR11, HR12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HR0 HR1 HR2 HR3 HR4 HR5 HR6 HR7 HR8 HR9 HR10 HR11 HR12 HS0 Hg]
        · isplitl [HR0 HR1 HR2 HR3 HR4 HR5 HR6 HR7 HR8 HR9 HR10 HR11 HR12 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS_castSucc_1 V c t, PhiS_pos_1 V c _ _ hz]
        rw [outsAt1_A V c t h0 h1]
        unfold sout1_A_0; (try dsimp only)
        iintro ⟨⟨⟨HR0, HR1, HR2, HR3, HR4, HR5, HR6, HR7, HR8, HR9, HR10, HR11, HR12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HR0 HR1 HR2 HR3 HR4 HR5 HR6 HR7 HR8 HR9 HR10 HR11 HR12 HS0 Hg]
        · isplitl [HR0 HR1 HR2 HR3 HR4 HR5 HR6 HR7 HR8 HR9 HR10 HR11 HR12 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 16 = 15
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7_C t (fun h => h0 ((hcond1_0 t).mp h)) ((hcond1_1 t).mpr h1)], after1_7]
      by_cases hz : t.val = 0
      · exfalso; have hN : t.val < 208 := lt_of_lt_of_eq t.isLt (show cfg1.N = 208 from N_1); omega
      · rw [PhiS_castSucc_1 V c t, PhiS_pos_1 V c _ _ hz]
        rw [outsAt1_C V c t h0 h1]
        unfold out1_C_7 sout1_C_0; (try dsimp only)
        iintro ⟨⟨⟨HR0, HR1, HR2, HR3, HR4, HR5, HR6, HR7, HR8, HR9, HR10, HR11, HR12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HR0 HR1 HR2 HR3 HR4 HR5 HR6 HR7 HR8 HR9 HR10 HR11 HR12 HS0 Hg]
        · isplitl [HR0 HR1 HR2 HR3 HR4 HR5 HR6 HR7 HR8 HR9 HR10 HR11 HR12 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover1_C_7 c _ _ _ _ _ _ _ _ _ _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      by_cases hz : t.val = 0
      · exfalso; have hN : t.val < 208 := lt_of_lt_of_eq t.isLt (show cfg1.N = 208 from N_1); omega
      · rw [PhiS_castSucc_1 V c t, PhiS_pos_1 V c _ _ hz]
        rw [outsAt1_B V c t h0 h1]
        unfold sout1_B_0; (try dsimp only)
        iintro ⟨⟨⟨HR0, HR1, HR2, HR3, HR4, HR5, HR6, HR7, HR8, HR9, HR10, HR11, HR12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HR0 HR1 HR2 HR3 HR4 HR5 HR6 HR7 HR8 HR9 HR10 HR11 HR12 HS0 Hg]
        · isplitl [HR0 HR1 HR2 HR3 HR4 HR5 HR6 HR7 HR8 HR9 HR10 HR11 HR12 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin_1 (c : Dev nD) : Pipeline.ΦA spec1 c ⊢ (dat1 V c).Φ 0 := by
  rw [show (dat1 V c).Φ 0 = PhiS_1 V c 0 (Nat.zero_le _) from rfl, PhiS_zero_1 V c 0 _ rfl]
  try exact Idealize.SL.BI.Entails.refl _

/-- After any point but the first the invariant gives `ΦA` back: the carried scratch's named contents are forgotten. -/
theorem Phi_out_1 (c : Dev nD) (t : Fin (cfg1.N + 1)) (ht : t.val ≠ 0) : (dat1 V c).Φ t ⊢ Pipeline.ΦA spec1 c := by
  rw [show (dat1 V c).Φ t = PhiS_1 V c t.val (Nat.le_of_lt_succ t.isLt) from rfl, PhiS_pos_1 V c _ _ ht, PhiA1_eq]
  iintro ⟨⟨HR0, HR1, HR2, HR3, HR4, HR5, HR6, HR7, HR8, HR9, HR10, HR11, HR12, HS0⟩, Hg⟩
  isplitl [HR0 HR1 HR2 HR3 HR4 HR5 HR6 HR7 HR8 HR9 HR10 HR11 HR12 HS0]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    iexists _; iexact HS0
  iexact Hg

/-- The same after the last point. -/
theorem hout_1 (c : Dev nD) : (dat1 V c).Φ (Fin.last cfg1.N) ⊢ Pipeline.ΦA spec1 c :=
  Phi_out_1 V c _ (by rw [Fin.val_last]; have : cfg1.N = 208 := N_1; omega)

end Regions

end Cert.KernelIdeal.Gen

end
-- ==== Proof.WholeIdeal.Hosts0.lean ====
/- THE HOST STRETCHES: what the operations before, between and after the two regions write. The text is the library frame generator's, adapted (NOTES.md). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10, main_v11, main_v12, main_v13, main_v14, main_v15, main_v16, main_v17, main_v18]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v21]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

end Cert.KernelIdeal.Gen

end
-- ==== Proof.WholeIdeal.Fold0.lean ====
/- THE BUFFER CONTENTS at each segment boundary, a fold from the launch memory, and the arguments read back through it. The text is the library frame generator's, adapted (NOTES.md). -/
module

public import proofs.«01_k».proof.Proof.WholeIdeal.Region0
public import proofs.«01_k».proof.Proof.WholeIdeal.Region1
public import proofs.«01_k».proof.Proof.WholeIdeal.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)
theorem W4_main_arg10 (c : Dev nD) : W4 m ρ c (Proc.devRef .tc main_arg10) = m ((c : Thread nD τ).loc main_arg10) :=
  W4_args m ρ c main_arg10 (by decide)
theorem W4_main_arg11 (c : Dev nD) : W4 m ρ c (Proc.devRef .tc main_arg11) = m ((c : Thread nD τ).loc main_arg11) :=
  W4_args m ρ c main_arg11 (by decide)
end Cert.KernelIdeal.Gen

end
-- ==== Proof.WholeIdeal.State.lean ====
/- THE PROOF DATA of the two pipelines and the state that rides through the segments. The text is the library frame generator's, adapted (NOTES.md). -/
module

public import proofs.«01_k».proof.Proof.WholeIdeal.Fold0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

end Cert.KernelIdeal.Gen

end
-- ==== Proof.WholeIdeal.Record0.lean ====
/- THE SHRINK REGION as a segment of @main. The text is the library frame generator's, adapted (NOTES.md). -/
module

public import proofs.«01_k».proof.Proof.WholeIdeal.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin_0 (V1 m ρ) c); unfold Pipeline.ΦA
    iintro ⟨Hp, -, Hr⟩
    isplitl [Hr]; · iexact Hr
    iexact Hp
  hout c := by
    rw [Pipeline.ownSems0_none]; refine BIBase.Entails.trans (hout_0 (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.WholeIdeal.Record1.lean ====
/- THE EXPAND REGION as a segment of @main. The text is the library frame generator's, adapted (NOTES.md). -/
module

public import proofs.«01_k».proof.Proof.WholeIdeal.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin_1 (V2 m ρ) c); unfold Pipeline.ΦA
    iintro ⟨Hp, -, Hr⟩
    isplitl [Hr]; · iexact Hr
    iexact Hp
  hout c := by
    rw [Pipeline.ownSems0_none]; refine BIBase.Entails.trans (hout_1 (V2 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.WholeIdeal.Frame.lean ====
/- THE RUN of @main: two regions among host stretches. Every final state holds the last boundary's contents in every unscoped
   buffer (`run_whole`); the arguments end as launched and every counter ends at zero (`frame`). The text is the library frame generator's, adapted (NOTES.md). -/
module

public import proofs.«01_k».proof.Proof.WholeIdeal.Record0
public import proofs.«01_k».proof.Proof.WholeIdeal.Record1

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- At the compiled mesh, from any memory with zero counters: every weakly fair execution of @main on the TensorCores terminates,
    nothing faulting, and every final state has every unscoped buffer at the last boundary's contents `W4` and every semaphore
    counter at zero. -/
theorem run_whole : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME: the argument arrays end as launched and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r hr => ⟨(fun c =>
      ⟨(hr.1 c _ (mem_uc main_arg0 (by decide))).trans (W4_main_arg0 m ρ c),
       (hr.1 c _ (mem_uc main_arg1 (by decide))).trans (W4_main_arg1 m ρ c),
       (hr.1 c _ (mem_uc main_arg2 (by decide))).trans (W4_main_arg2 m ρ c),
       (hr.1 c _ (mem_uc main_arg3 (by decide))).trans (W4_main_arg3 m ρ c),
       (hr.1 c _ (mem_uc main_arg4 (by decide))).trans (W4_main_arg4 m ρ c),
       (hr.1 c _ (mem_uc main_arg5 (by decide))).trans (W4_main_arg5 m ρ c),
       (hr.1 c _ (mem_uc main_arg6 (by decide))).trans (W4_main_arg6 m ρ c),
       (hr.1 c _ (mem_uc main_arg7 (by decide))).trans (W4_main_arg7 m ρ c),
       (hr.1 c _ (mem_uc main_arg8 (by decide))).trans (W4_main_arg8 m ρ c),
       (hr.1 c _ (mem_uc main_arg9 (by decide))).trans (W4_main_arg9 m ρ c),
       (hr.1 c _ (mem_uc main_arg10 (by decide))).trans (W4_main_arg10 m ρ c),
       (hr.1 c _ (mem_uc main_arg11 (by decide))).trans (W4_main_arg11 m ρ c)⟩), hr.2⟩) (run_whole m ρ)

end Cert.KernelIdeal.Gen

end
-- ==== Proof.Value.Bits.lean ====
module

public import Idealize.ShloMosaic.Lib.Pointwise

@[expose] public section

set_option maxRecDepth 16384

namespace Cert.KernelIdeal.Gen

open Idealize Idealize.ShloMosaic

/-- The two-bit field of slot `s` in a word, sign extended: the field moved to the top, then shifted back. -/
def fld2 (w : BitVec 32) (s : ℕ) : BitVec 32 := (w <<< (30 - 2 * s)).sshiftRight 30

/-- The three-bit field of slot `s` in a word, sign extended. -/
def fld3 (w : BitVec 32) (s : ℕ) : BitVec 32 := (w <<< (29 - 3 * s)).sshiftRight 29

/-- The integer a factor has at rank index `r`, in the order the calls keep: 286 two-bit fields, the two
    eight-bit codes, 32 three-bit fields. -/
def code (c8 : Fin 2 → BitVec 8) (c3 : Fin 4 → BitVec 32) (c2 : Fin 18 → BitVec 32) (r : ℕ) : BitVec 32 :=
  if r < 286 then fld2 (c2 (Fin.ofNat 18 (r / 16))) (r % 16)
  else if r < 288 then (c8 (Fin.ofNat 2 (r - 286))).signExtend 32
  else fld3 (c3 (Fin.ofNat 4 ((r - 288) / 10))) ((r - 288) % 10)

theorem shift2 (w : BitVec 32) (s : Fin 16) :
    IntOp.shrsi ArithUnit.vector (IntOp.shli ArithUnit.vector w (IntOp.subi (30#32) (IntOp.muli (2#32) (BitVec.ofNat 32 s))))
      30#32 = fld2 w s := by
  have h : ∀ s : Fin 16, (IntOp.subi (30#32) (IntOp.muli (2#32) (BitVec.ofNat 32 s))).toNat = 30 - 2 * (s : ℕ) := by decide
  unfold IntOp.shrsi IntOp.shli fld2
  rw [if_pos (by decide), if_pos (by rw [h]; omega), BitVec.shiftLeft_eq', BitVec.sshiftRight_eq', h]
  rfl

/-- The word the row of a three-bit field is in, as the call picks it, and its shift. -/
theorem shift3 (w0 w1 w2 w3 : BitVec 32) (s : Fin 32) :
    IntOp.shrsi ArithUnit.vector
        (IntOp.shli ArithUnit.vector
          (Scalar.select (IntOp.cmpi CmpIPredicate.sge (BitVec.ofNat 32 ↑s) 30#32) w3
            (Scalar.select (IntOp.cmpi CmpIPredicate.sge (BitVec.ofNat 32 ↑s) 20#32) w2
              (Scalar.select (IntOp.cmpi CmpIPredicate.sge (BitVec.ofNat 32 ↑s) 10#32) w1 w0)))
          (IntOp.subi (29#32)
            (IntOp.muli (3#32)
              (Scalar.select
                (IntOp.andi
                  (IntOp.xori
                    (IntOp.cmpi CmpIPredicate.slt
                      (IntOp.remsi ArithUnit.vector (BitVec.ofNat 32 ↑s)
                        (Scalar.select (Scalar.cmpi CmpIPredicate.eq 10#32 0#32) 1#32 10#32))
                      0#32)
                    (Scalar.cmpi CmpIPredicate.slt (Scalar.select (Scalar.cmpi CmpIPredicate.eq 10#32 0#32) 1#32 10#32)
                      0#32))
                  (IntOp.cmpi CmpIPredicate.ne
                    (IntOp.remsi ArithUnit.vector (BitVec.ofNat 32 ↑s)
                      (Scalar.select (Scalar.cmpi CmpIPredicate.eq 10#32 0#32) 1#32 10#32))
                    0#32))
                (IntOp.addi
                  (IntOp.remsi ArithUnit.vector (BitVec.ofNat 32 ↑s)
                    (Scalar.select (Scalar.cmpi CmpIPredicate.eq 10#32 0#32) 1#32 10#32))
                  (Scalar.select (Scalar.cmpi CmpIPredicate.eq 10#32 0#32) 1#32 10#32))
                (IntOp.remsi ArithUnit.vector (BitVec.ofNat 32 ↑s)
                  (Scalar.select (Scalar.cmpi CmpIPredicate.eq 10#32 0#32) 1#32 10#32))))))
        29#32 = fld3 (if (s : ℕ) < 10 then w0 else if (s : ℕ) < 20 then w1 else if (s : ℕ) < 30 then w2 else w3) ((s : ℕ) % 10) := by
  have hge : ∀ (s : Fin 32), IntOp.cmpi CmpIPredicate.sge (BitVec.ofNat 32 ↑s) 10#32 = (if (s : ℕ) < 10 then 0#1 else 1#1)
      ∧ IntOp.cmpi CmpIPredicate.sge (BitVec.ofNat 32 ↑s) 20#32 = (if (s : ℕ) < 20 then 0#1 else 1#1)
      ∧ IntOp.cmpi CmpIPredicate.sge (BitVec.ofNat 32 ↑s) 30#32 = (if (s : ℕ) < 30 then 0#1 else 1#1) := by decide +kernel
  have ha : ∀ s : Fin 32, (IntOp.subi (29#32)
            (IntOp.muli (3#32)
              (Scalar.select
                (IntOp.andi
                  (IntOp.xori
                    (IntOp.cmpi CmpIPredicate.slt
                      (IntOp.remsi ArithUnit.vector (BitVec.ofNat 32 ↑s)
                        (Scalar.select (Scalar.cmpi CmpIPredicate.eq 10#32 0#32) 1#32 10#32))
                      0#32)
                    (Scalar.cmpi CmpIPredicate.slt (Scalar.select (Scalar.cmpi CmpIPredicate.eq 10#32 0#32) 1#32 10#32)
                      0#32))
                  (IntOp.cmpi CmpIPredicate.ne
                    (IntOp.remsi ArithUnit.vector (BitVec.ofNat 32 ↑s)
                      (Scalar.select (Scalar.cmpi CmpIPredicate.eq 10#32 0#32) 1#32 10#32))
                    0#32))
                (IntOp.addi
                  (IntOp.remsi ArithUnit.vector (BitVec.ofNat 32 ↑s)
                    (Scalar.select (Scalar.cmpi CmpIPredicate.eq 10#32 0#32) 1#32 10#32))
                  (Scalar.select (Scalar.cmpi CmpIPredicate.eq 10#32 0#32) 1#32 10#32))
                (IntOp.remsi ArithUnit.vector (BitVec.ofNat 32 ↑s)
                  (Scalar.select (Scalar.cmpi CmpIPredicate.eq 10#32 0#32) 1#32 10#32))))).toNat = 29 - 3 * ((s : ℕ) % 10) := by
    decide +kernel
  obtain ⟨h1, h2, h3⟩ := hge s
  rw [h1, h2, h3]
  have hb : ∀ {α : Type} (c : Prop) [Decidable c] (x y : α), Scalar.select (if c then 0#1 else 1#1) x y = if c then y else x := by
    intro α c _ x y
    by_cases hc : c
    · rw [if_pos hc, if_pos hc]; rfl
    · rw [if_neg hc, if_neg hc]; rfl
  rw [hb, hb, hb]
  unfold IntOp.shrsi IntOp.shli fld3
  rw [if_pos (by decide), if_pos (by rw [ha]; omega), BitVec.shiftLeft_eq', BitVec.sshiftRight_eq', ha]
  have e : (if (s : ℕ) < 30 then if (s : ℕ) < 20 then if (s : ℕ) < 10 then w0 else w1 else w2 else w3)
      = (if (s : ℕ) < 10 then w0 else if (s : ℕ) < 20 then w1 else if (s : ℕ) < 30 then w2 else w3) := by
    by_cases a1 : (s : ℕ) < 10
    · rw [if_pos (show (s : ℕ) < 30 by omega), if_pos (show (s : ℕ) < 20 by omega), if_pos a1, if_pos a1]
    · by_cases a2 : (s : ℕ) < 20
      · rw [if_pos (show (s : ℕ) < 30 by omega), if_pos a2, if_neg a1, if_neg a1, if_pos a2]
      · by_cases a3 : (s : ℕ) < 30
        · rw [if_pos a3, if_neg a2, if_neg a1, if_neg a2, if_pos a3]
        · rw [if_neg a3, if_neg a1, if_neg a2, if_neg a3]
  rw [e]
  rfl

/-- The last word's two replaced slots. -/
theorem shift2_last (w : BitVec 32) (c0 c1 : BitVec 32) (s : Fin 16) :
    Scalar.select (IntOp.cmpi CmpIPredicate.eq (BitVec.ofNat 32 ↑s) 15#32) c1
      (Scalar.select (IntOp.cmpi CmpIPredicate.eq (BitVec.ofNat 32 ↑s) 14#32) c0 (fld2 w s))
      = if (s : ℕ) < 14 then fld2 w s else if (s : ℕ) = 14 then c0 else c1 := by
  have hge : ∀ (s : Fin 16), IntOp.cmpi CmpIPredicate.eq (BitVec.ofNat 32 ↑s) 15#32 = (if (s : ℕ) = 15 then 1#1 else 0#1)
      ∧ IntOp.cmpi CmpIPredicate.eq (BitVec.ofNat 32 ↑s) 14#32 = (if (s : ℕ) = 14 then 1#1 else 0#1) := by decide +kernel
  obtain ⟨h1, h2⟩ := hge s
  rw [h1, h2]
  by_cases a1 : (s : ℕ) < 14
  · rw [if_pos a1, if_neg (show ¬ (s : ℕ) = 15 by omega), if_neg (show ¬ (s : ℕ) = 14 by omega)]; rfl
  · rw [if_neg a1]
    by_cases a2 : (s : ℕ) = 14
    · rw [if_pos a2, if_neg (show ¬ (s : ℕ) = 15 by omega), if_pos a2]; rfl
    · rw [if_neg a2, if_pos (show (s : ℕ) = 15 by omega), if_neg a2]; rfl

/-- The three-bit part of `code`. -/
theorem code_hi (c8 : Fin 2 → BitVec 8) (c3 : Fin 4 → BitVec 32) (c2 : Fin 18 → BitVec 32) (s : Fin 32) (r : ℕ)
    (hr : r = 288 + s) : code c8 c3 c2 r
      = fld3 (if (s : ℕ) < 10 then c3 0 else if (s : ℕ) < 20 then c3 1 else if (s : ℕ) < 30 then c3 2 else c3 3) ((s : ℕ) % 10) := by
  have hs := s.isLt
  unfold code
  rw [if_neg (show ¬ r < 286 by omega), if_neg (show ¬ r < 288 by omega), show r - 288 = s by omega]
  by_cases a1 : (s : ℕ) < 10
  · rw [if_pos a1, show (s : ℕ) / 10 = 0 by omega]; rfl
  · rw [if_neg a1]
    by_cases a2 : (s : ℕ) < 20
    · rw [if_pos a2, show (s : ℕ) / 10 = 1 by omega]; rfl
    · rw [if_neg a2]
      by_cases a3 : (s : ℕ) < 30
      · rw [if_pos a3, show (s : ℕ) / 10 = 2 by omega]; rfl
      · rw [if_neg a3, show (s : ℕ) / 10 = 3 by omega]; rfl

end Cert.KernelIdeal.Gen

end
-- ==== Proof.Value.Factor.lean ====
module

public import proofs.«01_k».proof.Proof.Gen.KernelIdeal.Skeleton
public import proofs.«01_k».proof.Proof.Value.Bits
public import Idealize.ShloMosaic.Lib.Pointwise

@[expose] public section

set_option maxRecDepth 16384

namespace Cert.KernelIdeal.Gen

open Idealize Idealize.ShloMosaic
open Cert.KernelIdeal

/-- The factor block the first call decodes: the printed payloads composed. -/
noncomputable def dec0 (x1 : Vec Ideal S2x1024 .i8) (x2 : Vec Ideal S4x1024 .i32) (x3 : Vec Ideal S18x1024 .i32) :
    FVec Ideal S320x1024 .bf16 :=
  let v4 := k0_pay5 (F := Ideal) x1
  let v6 := k0_pay6 (F := Ideal) x2
  let v8 := k0_pay7 (F := Ideal) x3
  let v9 : IVec S16x1024 32 := iota .tc S16x1024 32 [0] iota_S16x1024_d0_w32
  let v13 := k0_pay8
  let v135 : IVec S32x1024 32 := iota .tc S32x1024 32 [0] iota_S32x1024_d0_w32
  k0_pay1 (k0_pay19 v8 v13) (k0_pay20 v8 v13) (k0_pay21 v8 v13) (k0_pay22 v8 v13) (k0_pay23 v8 v13)
    (k0_pay25 v13 (k0_pay24 v8)) (k0_pay26 v8 v13) (k0_pay27 v8 v13) (k0_pay28 v8 v13) (k0_pay29 v4 v8 v9 v13)
    (k0_pay32 v6 v135 (k0_pay30 v6) k0_pay31)
    (k0_pay33 (k0_pay9 (F := Ideal) x3)) (k0_pay34 (k0_pay10 (F := Ideal) x3)) (k0_pay35 (k0_pay11 (F := Ideal) x3))
    (k0_pay36 (k0_pay12 (F := Ideal) x3)) (k0_pay37 (k0_pay15 (k0_pay13 (F := Ideal) x3) k0_pay14))
    (k0_pay38 (k0_pay16 v8 v13)) (k0_pay39 (k0_pay17 v8 v13)) (k0_pay40 (k0_pay18 v8 v13))

/-- The factor block the second call decodes. -/
noncomputable def dec1 (x1 : Vec Ideal S2x1024 .i8) (x2 : Vec Ideal S4x1024 .i32) (x3 : Vec Ideal S18x1024 .i32) :
    FVec Ideal S320x1024 .bf16 :=
  let v60 := k1_pay3 (F := Ideal) x1
  let v62 := k1_pay4 (F := Ideal) x2
  let v64 := k1_pay5 (F := Ideal) x3
  let v65 : IVec S16x1024 32 := iota .tc S16x1024 32 [0] iota_S16x1024_d0_w32
  let v69 := k1_pay6
  let v191 : IVec S32x1024 32 := iota .tc S32x1024 32 [0] iota_S32x1024_d0_w32
  k1_pay43 (k1_pay21 v64 v69) (k1_pay22 v64 v69) (k1_pay24 v69 (k1_pay23 v64)) (k1_pay25 v64 v69) (k1_pay26 v64 v69)
    (k1_pay27 v60 v64 v65 v69) (k1_pay30 v62 v191 (k1_pay28 v62) k1_pay29)
    (k1_pay31 (k1_pay7 (F := Ideal) x3)) (k1_pay32 (k1_pay8 (F := Ideal) x3)) (k1_pay33 (k1_pay9 (F := Ideal) x3))
    (k1_pay34 (k1_pay10 (F := Ideal) x3)) (k1_pay35 (k1_pay11 (F := Ideal) x3))
    (k1_pay36 (k1_pay14 (k1_pay12 (F := Ideal) x3) k1_pay13))
    (k1_pay37 (k1_pay15 v64 v69)) (k1_pay38 (k1_pay16 v64 v69)) (k1_pay39 (k1_pay17 v64 v69))
    (k1_pay40 (k1_pay18 v64 v69)) (k1_pay41 (k1_pay19 v64 v69)) (k1_pay42 (k1_pay20 v64 v69))

/-- Both calls decode the same way. -/
theorem dec1_eq (x1 : Vec Ideal S2x1024 .i8) (x2 : Vec Ideal S4x1024 .i32) (x3 : Vec Ideal S18x1024 .i32) :
    dec1 x1 x2 x3 = dec0 x1 x2 x3 := rfl

set_option maxHeartbeats 4000000 in
theorem dec0_lo (x1 : Vec Ideal S2x1024 .i8) (x2 : Vec Ideal S4x1024 .i32) (x3 : Vec Ideal S18x1024 .i32)
    (q : Fin 18) (s : Fin 16) (n : Fin 1024) (r : Fin 320) (hr : (r : ℕ) = 16 * q + s) :
    dec0 x1 x2 x3 (ix2 r n) = FloatOps.sitofp (F := Ideal) FTy.f32
      (code (fun a => x1 (ix2 a n)) (fun a => x2 (ix2 a n)) (fun a => x3 (ix2 a n)) r) := by
  dsimp only [dec0]
  pointwise [k0_pay1, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40]
  simp only [Nat.sub_sub, Nat.reduceAdd]
  obtain ⟨q, hq⟩ := q
  replace hr : (r : ℕ) = 16 * q + s := hr
  have hs := s.isLt
  have hc : code (fun a => x1 (ix2 a n)) (fun a => x2 (ix2 a n)) (fun a => x3 (ix2 a n)) r
      = if q < 17 ∨ (s : ℕ) < 14 then fld2 (x3 (ix2 ⟨q, hq⟩ n)) s
        else if (s : ℕ) = 14 then (x1 (ix2 0 n)).signExtend 32 else (x1 (ix2 1 n)).signExtend 32 := by
    unfold code
    have e : Fin.ofNat 18 ((r : ℕ) / 16) = ⟨q, hq⟩ := Fin.ext (by show _ % 18 = q; omega)
    have e' : (r : ℕ) % 16 = s := by omega
    rw [e, e']
    by_cases h1 : (r : ℕ) < 286
    · rw [if_pos h1, if_pos (by omega)]
    · rw [if_neg h1, if_pos (show (r : ℕ) < 288 by omega), if_neg (by omega)]
      by_cases h2 : (s : ℕ) = 14
      · rw [if_pos h2, show (r : ℕ) - 286 = 0 by omega]; rfl
      · rw [if_neg h2, show (r : ℕ) - 286 = 1 by omega]; rfl
  rw [hc]
  clear hc
  interval_cases q
  case «17» =>
    repeat first
      | with_reducible refine (dif_pos (by omega)).trans ?_
      | with_reducible refine (dif_neg (by omega)).trans ?_
    simp only [hr, Nat.reduceMul, Nat.add_sub_cancel_left, shift2, shift2_last, Nat.lt_irrefl, false_or]
    rfl
  all_goals
    repeat first
      | with_reducible refine (dif_pos (by omega)).trans ?_
      | with_reducible refine (dif_neg (by omega)).trans ?_
    simp only [Nat.reduceMul, hr, Nat.add_sub_cancel_left, Nat.zero_add, shift2]
    rfl

set_option maxHeartbeats 4000000 in
theorem dec0_hi (x1 : Vec Ideal S2x1024 .i8) (x2 : Vec Ideal S4x1024 .i32) (x3 : Vec Ideal S18x1024 .i32)
    (s : Fin 32) (n : Fin 1024) (r : Fin 320) (hr : (r : ℕ) = 288 + s) :
    dec0 x1 x2 x3 (ix2 r n) = FloatOps.sitofp (F := Ideal) FTy.f32
      (code (fun a => x1 (ix2 a n)) (fun a => x2 (ix2 a n)) (fun a => x3 (ix2 a n)) r) := by
  dsimp only [dec0]
  pointwise [k0_pay1, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40]
  simp only [Nat.sub_sub, Nat.reduceAdd]
  have h : ∀ k, k ≤ 272 → ¬ (r : ℕ) - k < 16 := by intro k hk; omega
  have h0 : ¬ (r : ℕ) < 16 := by omega
  have e : (r : ℕ) - 288 = s := by omega
  simp (discharger := norm_num) only [h0, h, dif_neg, not_false_eq_true, ↓reduceDIte]
  rw [e, shift3, code_hi _ _ _ s r hr]

/-- The decoded factor block at a rank row and a lane. -/
theorem dec0_at (x1 : Vec Ideal S2x1024 .i8) (x2 : Vec Ideal S4x1024 .i32) (x3 : Vec Ideal S18x1024 .i32)
    (r : Fin 320) (n : Fin 1024) :
    dec0 x1 x2 x3 (ix2 r n) = FloatOps.sitofp (F := Ideal) FTy.f32
      (code (fun a => x1 (ix2 a n)) (fun a => x2 (ix2 a n)) (fun a => x3 (ix2 a n)) r) := by
  have hr := r.isLt
  by_cases h : (r : ℕ) < 288
  · exact dec0_lo x1 x2 x3 ⟨r / 16, by omega⟩ ⟨r % 16, by omega⟩ n r (by dsimp only; omega)
  · exact dec0_hi x1 x2 x3 ⟨r - 288, by omega⟩ n r (by dsimp only; omega)

end Cert.KernelIdeal.Gen

end
-- ==== Proof.Value.Shrink.lean ====
module

public import proofs.«01_k».proof.Proof.Value.Factor
public import proofs.«01_k».proof.Proof.WholeIdeal.Region0
public import Idealize.ShloMosaic.Lib.Pipeline.ValueKit
public import Idealize.ShloMosaic.Lib.Pipeline.ReadBack

@[expose] public section

set_option maxRecDepth 16384

namespace Cert.KernelIdeal.Gen

open Idealize Idealize.ShloMosaic Idealize.ShloMosaic.TcCoe
open Cert.KernelIdeal
open Idealize.ShloMosaic.Pipeline (Dat Cfg Window)

variable (V : (c : Dev nD) → (b : Ref sig .tc) → Buf (Elt Ideal) ((c : Thread nD τ).loc b)) (c : Dev nD)

/-- The accumulating payload: the accumulator plus one tile's part of the contraction. -/
theorem pay2_at (v : FVec Ideal S320x1024 .bf16) (acc : Vec Ideal S320x3072 .f32) (x : Vec Ideal S3072x1024 .bf16)
    (j : S320x3072.Idx) :
    k0_pay2 (F := Ideal) v acc x j
      = acc j + ∑ k : Fin 1024, (show EReal from v (ix2 (j 0) k)) * (show EReal from x (ix2 (j 1) k)) := by
  pointwise [k0_pay2]

theorem pay4_at (j : S320x3072.Idx) : k0_pay4 (F := Ideal) j = 0 := by pointwise [k0_pay4]

theorem pay3_at (vs : Vec Ideal S320x1 .bf16) (sg : Vec Ideal S320x1 .f32) (us : Vec Ideal S320x1 .bf16)
    (acc : Vec Ideal S320x3072 .f32) (y : S3072x320.Idx) :
    k0_pay3 (F := Ideal) vs sg us acc y
      = (show EReal from acc (ix2 (y 1) (y 0))) * ((show EReal from vs (ix2 (y 1) 0)) * (show EReal from sg (ix2 (y 1) 0))
          * (show EReal from us (ix2 (y 1) 0))) := by
  pointwise [k0_pay3]

/-- One tile's part of the contraction, over the point's blocks. -/
noncomputable def part0 (t : Fin cfg0.N) (j : S320x3072.Idx) : EReal :=
  ∑ k : Fin 1024, (show EReal from dec0 (iblk0 V c 1 t) (iblk0 V c 2 t) (iblk0 V c 3 t) (ix2 (j 0) k))
    * (show EReal from (show FVec Ideal S3072x1024 .bf16 from iblk0 V c 0 t) (ix2 (j 1) k))

/-- The first point's accumulator: its own part. -/
theorem acc0_first (t : Fin cfg0.N) (h : t.val % 16 = 0) (j : S320x3072.Idx) :
    (outsAt0 V c t.val t.isLt).2 j = (0 : EReal) + part0 V c t j := by
  rw [outsAt0_A V c t h (by omega)]
  frame_out
  rw [pay2_at, pay4_at]
  rfl

/-- A later point's: what the previous one left, plus its own part. -/
theorem acc0_next (t : Fin cfg0.N) (h : ¬ t.val % 16 = 0) (j : S320x3072.Idx) :
    (outsAt0 V c t.val t.isLt).2 j
      = (show EReal from (outsAt0 V c (t.val - 1) (Nat.lt_of_le_of_lt (Nat.sub_le _ _) t.isLt)).2 j) + part0 V c t j := by
  by_cases h1 : t.val % 16 = 15
  · rw [outsAt0_C V c t h h1]
    frame_out
    rw [pay2_at, read_unread_whole]
    rfl
  · rw [outsAt0_B V c t h h1]
    frame_out
    rw [pay2_at, read_unread_whole]
    rfl

/-- What the last point writes: the accumulator scaled by the three factors of the rank row, transposed. -/
theorem out0_last (t : Fin cfg0.N) (h : t.val % 16 = 15) (y : S3072x320.Idx) :
    (outsAt0 V c t.val t.isLt).1 y
      = (show EReal from (outsAt0 V c t.val t.isLt).2 (ix2 (y 1) (y 0)))
        * ((show EReal from (show FVec Ideal S320x1 .bf16 from iblk0 V c 4 t) (ix2 (y 1) 0))
          * (show EReal from (show FVec Ideal S320x1 .f32 from iblk0 V c 6 t) (ix2 (y 1) 0))
          * (show EReal from (show FVec Ideal S320x1 .bf16 from iblk0 V c 5 t) (ix2 (y 1) 0))) := by
  rw [outsAt0_C V c t (by omega) h]
  frame_out
  rw [pay3_at]

/-- What the first call computes, over its operands: the factor's code against the activation row, summed over the
    contraction, times the rank row's three factors. -/
noncomputable def G0 (x : FVec Ideal S3072x16384 .bf16) (c8 : IVec S2x16384 8) (c3 : IVec S4x16384 32)
    (c2 : IVec S18x16384 32) (vs us : FVec Ideal S320x1 .bf16) (sg : FVec Ideal S320x1 .f32) : FVec Ideal S3072x320 .bf16 :=
  fun y => (show EReal from ∑ l : Fin 16384,
      (show EReal from FloatOps.sitofp (F := Ideal) FTy.f32
        (code (fun a => c8 (ix2 a l)) (fun a => c3 (ix2 a l)) (fun a => c2 (ix2 a l)) (y 1).val))
        * (show EReal from x (ix2 (y 0) l)))
    * ((show EReal from vs (ix2 (y 1) 0)) * (show EReal from sg (ix2 (y 1) 0)) * (show EReal from us (ix2 (y 1) 0)))

theorem idx0 : ∀ t : Fin cfg0.N, win0_0.index t = ![0, t.val] ∧ win0_1.index t = ![0, t.val] ∧ win0_2.index t = ![0, t.val]
    ∧ win0_3.index t = ![0, t.val] ∧ win0_4.index t = ![0, 0] ∧ win0_5.index t = ![0, 0] ∧ win0_6.index t = ![0, 0]
    ∧ win0_7.index t = ![0, 0] :=
  (by decide +kernel : ∀ t : Fin grid0.N, _)

theorem lane0 (t : Fin cfg0.N) (k : Fin 1024) : t.val * 1024 + k.val < 16384 := by
  have := t.isLt; have h : cfg0.N = 16 := by decide +kernel
  omega

theorem blk0_x (t : Fin cfg0.N) (i : Fin 3072) (k : Fin 1024) :
    (show FVec Ideal S3072x1024 .bf16 from iblk0 V c 0 t) (ix2 i k)
      = (show FVec Ideal S3072x16384 .bf16 from V c main_v0) (ix2 i ⟨t.val * 1024 + k.val, lane0 t k⟩) := by
  blk_ext [iblk0, idx0 t]

theorem blk0_c8 (t : Fin cfg0.N) (i : Fin 2) (k : Fin 1024) :
    (show IVec S2x1024 8 from iblk0 V c 1 t) (ix2 i k)
      = (show IVec S2x16384 8 from V c main_v13) (ix2 i ⟨t.val * 1024 + k.val, lane0 t k⟩) := by
  blk_ext [iblk0, idx0 t]

theorem blk0_c3 (t : Fin cfg0.N) (i : Fin 4) (k : Fin 1024) :
    (show IVec S4x1024 32 from iblk0 V c 2 t) (ix2 i k)
      = (show IVec S4x16384 32 from V c main_v14) (ix2 i ⟨t.val * 1024 + k.val, lane0 t k⟩) := by
  blk_ext [iblk0, idx0 t]

theorem blk0_c2 (t : Fin cfg0.N) (i : Fin 18) (k : Fin 1024) :
    (show IVec S18x1024 32 from iblk0 V c 3 t) (ix2 i k)
      = (show IVec S18x16384 32 from V c main_v15) (ix2 i ⟨t.val * 1024 + k.val, lane0 t k⟩) := by
  blk_ext [iblk0, idx0 t]

theorem blk0_vs (t : Fin cfg0.N) (r : Fin 320) :
    (show FVec Ideal S320x1 .bf16 from iblk0 V c 4 t) (ix2 r 0) = (show FVec Ideal S320x1 .bf16 from V c main_v4) (ix2 r 0) := by
  blk_ext [iblk0, idx0 t]

theorem blk0_us (t : Fin cfg0.N) (r : Fin 320) :
    (show FVec Ideal S320x1 .bf16 from iblk0 V c 5 t) (ix2 r 0) = (show FVec Ideal S320x1 .bf16 from V c main_v8) (ix2 r 0) := by
  blk_ext [iblk0, idx0 t]

theorem blk0_sg (t : Fin cfg0.N) (r : Fin 320) :
    (show FVec Ideal S320x1 .f32 from iblk0 V c 6 t) (ix2 r 0) = (show FVec Ideal S320x1 .f32 from V c main_v12) (ix2 r 0) := by
  blk_ext [iblk0, idx0 t]

theorem blk0_out (t : Fin cfg0.N) (y : S3072x320.Idx) : (win0_7.blk t).view.emb y = y := by
  blk_ext [idx0 t]

theorem part0_at (t : Fin cfg0.N) (r : Fin 320) (i : Fin 3072) :
    part0 V c t (ix2 r i) = ∑ k : Fin 1024, (show EReal from FloatOps.sitofp (F := Ideal) FTy.f32
        (code (fun a => (show IVec S2x16384 8 from V c main_v13) (ix2 a ⟨t.val * 1024 + k.val, lane0 t k⟩))
          (fun a => (show IVec S4x16384 32 from V c main_v14) (ix2 a ⟨t.val * 1024 + k.val, lane0 t k⟩))
          (fun a => (show IVec S18x16384 32 from V c main_v15) (ix2 a ⟨t.val * 1024 + k.val, lane0 t k⟩)) r.val))
        * (show EReal from (show FVec Ideal S3072x16384 .bf16 from V c main_v0) (ix2 i ⟨t.val * 1024 + k.val, lane0 t k⟩)) := by
  refine Finset.sum_congr rfl fun k _ => Ideal.mul_congr ?_ (blk0_x V c t i k)
  refine (dec0_at _ _ _ r k).trans ?_
  rw [funext fun a => blk0_c8 V c t a k, funext fun a => blk0_c3 V c t a k, funext fun a => blk0_c2 V c t a k]

/-- The first call's result array. -/
theorem final0 : (dat0 V c).arrAt 7 cfg0.N
    = G0 (V c main_v0) (V c main_v13) (V c main_v14) (V c main_v15) (V c main_v4) (V c main_v8) (V c main_v12) := by
  refine (dat0 V c).arrAt_eq_of_covers 7 _ (by decide +kernel) fun t hf y => ?_
  have ht := (flush0_7 t).mp hf
  refine Eq.trans ?_ (congrArg (G0 (V c main_v0) (V c main_v13) (V c main_v14) (V c main_v15) (V c main_v4) (V c main_v8) (V c main_v12)) (blk0_out t y)).symm
  rw [after0_7, out0_last V c t ht,
    Pipeline.eq_sum_fin_of_reset_step_apply_of_flush (M := EReal) (fun n h => (outsAt0 V c n h).2) 16 (fun _ => 0) (part0 V c)
      (acc0_first V c) (acc0_next V c) t ht _, zero_add]
  refine Ideal.mul_congr ?_ (Ideal.mul_congr (Ideal.mul_congr (blk0_vs V c t (y 1)) (blk0_sg V c t (y 1))) (blk0_us V c t (y 1)))
  refine (Finset.sum_congr rfl fun s _ => part0_at V c _ (y 1) (y 0)).trans ?_
  refine Fin.sum_mul_add_congr fun s k hl => ?_
  have e : (16 * (t.val / 16) + s.val) * 1024 + k.val = s.val * 1024 + k.val := by
    have := t.isLt; have h : cfg0.N = 16 := by decide +kernel
    omega
  simp only [e]

end Cert.KernelIdeal.Gen

end
-- ==== Proof.Value.Nibble.lean ====
module

public import proofs.«01_k».proof.Proof.Gen.KernelIdeal.Skeleton
public import Idealize.ShloMosaic.Lib.Pointwise
public import Idealize.ShloMosaic.Lib.BitcastPair

@[expose] public section

set_option maxRecDepth 16384

namespace Cert.KernelIdeal.Gen

open Idealize Idealize.ShloMosaic
open Cert.KernelIdeal

/-- The four bits of a packed byte that belong to row `l`: the low ones on an even row, the high ones on an odd one. -/
def nib (l : ℕ) (b : BitVec 8) : BitVec 4 := if l % 2 = 0 then b.extractLsb' 0 4 else b.extractLsb' 4 4

/-- Half `p` of the word the kernel builds from a packed byte. -/
theorem word_half (b : BitVec 8) (l : ℕ) :
    BitVec.extractLsb' (16 * (l % 2)) 16
      (((b.setWidth 32 ||| b.setWidth 32 <<< 12) &&& 983055#32) ^^^ 1124614920#32)
      = 0x4308#16 ^^^ (nib l b).setWidth 16 := by
  unfold nib
  rcases Nat.mod_two_eq_zero_or_one l with h | h
  · rw [h, if_pos rfl]; revert b; decide +kernel
  · rw [h, if_neg (by decide)]; revert b; decide +kernel

theorem nib_val (q : BitVec 4) :
    (show EReal from Ideal.ofBits .bf16 (0x4308#16 ^^^ q.setWidth 16)) - (show EReal from Ideal.ofBits .bf16 0x4308#16)
      = (show EReal from FloatOps.sitofp (F := Ideal) FTy.f32 (q.signExtend 32)) := by
  have h : ∀ n : Fin 16, (show EReal from Ideal.ofBits .bf16 (0x4308#16 ^^^ (BitVec.ofFin n : BitVec 4).setWidth 16)) - (show EReal from Ideal.ofBits .bf16 0x4308#16)
      = (show EReal from FloatOps.sitofp (F := Ideal) FTy.f32 ((BitVec.ofFin n : BitVec 4).signExtend 32)) := by
    intro n
    have hs : ∀ w : BitVec 32, (show EReal from FloatOps.sitofp (F := Ideal) FTy.f32 w) = ((w.toInt : ℝ) : EReal) := fun _ => rfl
    rw [hs]
    fin_cases n <;> simp [Ideal.ofBits, Ideal.ieee, -EReal.coe_mul] <;> rw [← EReal.coe_sub] <;>
      norm_num [BitVec.toInt]
  exact h q.toFin

/-- The decoded block of the packed matrix: row `l`'s four bits, as a signed number. -/
theorem pay45_at (x : Vec Ideal S512x1024 .i8) (l : Fin 1024) (n : Fin 1024) :
    k1_pay45 (F := Ideal) x (ix2 l n)
      = FloatOps.sitofp (F := Ideal) FTy.f32 ((nib l.val (x (ix2 ⟨l.val / 2, by omega⟩ n))).signExtend 32) := by
  pointwise [k1_pay45]
  rw [bitcast_32_16]
  have e : ∀ hh, bitcasts_S512x1024_w32_S1024x1024_w16.srcIdx (ix2 l n : S1024x1024.Idx) (S1024x1024.row (ix2 l n) / 2) hh
      = (ix2 (⟨l.val / 2, by omega⟩ : Fin 512) n : S512x1024.Idx) := by
    intro hh
    funext a
    apply Fin.ext
    match a with
    | ⟨0, _⟩ => rfl
    | ⟨1, _⟩ => rfl
  rw [e]
  refine Eq.trans ?_ (nib_val _)
  rw [← word_half]
  rfl

end Cert.KernelIdeal.Gen

end
-- ==== Proof.Value.ExpandPure.lean ====
module

public import proofs.«01_k».proof.Proof.Value.Factor
public import proofs.«01_k».proof.Proof.Value.Nibble

@[expose] public section

set_option maxRecDepth 16384

namespace Cert.KernelIdeal.Gen

open Idealize Idealize.ShloMosaic
open Cert.KernelIdeal

/-- The accumulating payload: the accumulator plus one tile's part of the contraction, the tile's row `l` being the
    decoded row times the scale row of its group of 128. -/
theorem k1_pay1_at (w : Vec Ideal S512x1024 .i8) (s0 s1 s2 s3 s4 s5 s6 s7 : Vec Ideal S1x1024 .bf16)
    (acc : Vec Ideal S3072x1024 .f32) (x : Vec Ideal S3072x1024 .bf16) (i : Fin 3072) (n : Fin 1024)
    (s : Fin 8 → EReal) (h0 : s0 (ix2 0 n) = s 0) (h1 : s1 (ix2 0 n) = s 1) (h2 : s2 (ix2 0 n) = s 2)
    (h3 : s3 (ix2 0 n) = s 3) (h4 : s4 (ix2 0 n) = s 4) (h5 : s5 (ix2 0 n) = s 5) (h6 : s6 (ix2 0 n) = s 6)
    (h7 : s7 (ix2 0 n) = s 7) :
    k1_pay1 (F := Ideal) (k1_pay45 w) (k1_pay46 w s0) (k1_pay47 w s1) (k1_pay48 w s2) (k1_pay49 w s3) (k1_pay50 w s4)
      (k1_pay51 w) s5 s6 s7 acc x (ix2 i n)
      = acc (ix2 i n) + ∑ l : Fin 1024, (show EReal from x (ix2 i l))
        * ((show EReal from k1_pay45 w (ix2 l n)) * s ⟨l.val / 128, by omega⟩) := by
  pointwise [k1_pay1, k1_pay46, k1_pay47, k1_pay48, k1_pay49, k1_pay50, k1_pay51]
  refine congrArg _ (Finset.sum_congr rfl fun l _ => congrArg _ ?_)
  have key : ∀ (l' : Fin 1024) (g : Fin 8), l'.val = l.val → g.val = l.val / 128 →
      (show EReal from k1_pay45 (F := Ideal) w (ix2 l' n)) * s g
        = (show EReal from k1_pay45 (F := Ideal) w (ix2 l n)) * s ⟨l.val / 128, by omega⟩ := by
    intro l' g e1 e2
    obtain rfl : l' = l := Fin.ext e1
    have e : g = ⟨l'.val / 128, by omega⟩ := Fin.ext e2
    exact congrArg (fun z => (show EReal from k1_pay45 (F := Ideal) w (ix2 l' n)) * s z) e
  simp only [Nat.sub_sub, Nat.reduceAdd, h0, h1, h2, h3, h4, h5, h6, h7]
  by_cases c0 : l.val < 128
  · rw [dif_pos c0]; exact key _ 0 rfl (show 0 = l.val / 128 by omega)
  rw [dif_neg c0]
  by_cases c1 : l.val - 128 < 128
  · rw [dif_pos c1]; exact key _ 1 (show 128 + (l.val - 128) = l.val by omega) (show 1 = l.val / 128 by omega)
  rw [dif_neg c1]
  by_cases c2 : l.val - 256 < 128
  · rw [dif_pos c2]; exact key _ 2 (show 256 + (l.val - 256) = l.val by omega) (show 2 = l.val / 128 by omega)
  rw [dif_neg c2]
  by_cases c3 : l.val - 384 < 128
  · rw [dif_pos c3]; exact key _ 3 (show 384 + (l.val - 384) = l.val by omega) (show 3 = l.val / 128 by omega)
  rw [dif_neg c3]
  by_cases c4 : l.val - 512 < 128
  · rw [dif_pos c4]; exact key _ 4 (show 512 + (l.val - 512) = l.val by omega) (show 4 = l.val / 128 by omega)
  rw [dif_neg c4]
  by_cases c5 : l.val - 640 < 128
  · rw [dif_pos c5]; exact key _ 5 (show 640 + (l.val - 640) = l.val by omega) (show 5 = l.val / 128 by omega)
  rw [dif_neg c5]
  by_cases c6 : l.val - 768 < 128
  · rw [dif_pos c6]; exact key _ 6 (show 768 + (l.val - 768) = l.val by omega) (show 6 = l.val / 128 by omega)
  rw [dif_neg c6]
  exact key _ 7 (show 896 + (l.val - 896) = l.val by omega) (show 7 = l.val / 128 by omega)

/-- The product that starts the accumulator. -/
theorem k1_pay44_at (v : FVec Ideal S320x1024 .bf16) (t : Vec Ideal S3072x320 .bf16) (i : Fin 3072) (n : Fin 1024) :
    k1_pay44 (F := Ideal) v t (ix2 i n)
      = ∑ r : Fin 320, (show EReal from t (ix2 i r)) * (show EReal from v (ix2 r n)) := by
  pointwise [k1_pay44]

/-- The last store drops to the narrower format. -/
theorem k1_pay2_eq (v : Vec Ideal S3072x1024 .f32) : k1_pay2 (F := Ideal) v = v := rfl

end Cert.KernelIdeal.Gen

end
-- ==== Proof.Value.Expand.lean ====
module

public import proofs.«01_k».proof.Proof.Value.ExpandPure
public import proofs.«01_k».proof.Proof.WholeIdeal.Region1
public import Idealize.ShloMosaic.Lib.Pipeline.ValueKit
public import Idealize.ShloMosaic.Lib.Pipeline.ReadBack

@[expose] public section

set_option maxRecDepth 16384

namespace Cert.KernelIdeal.Gen

open Idealize Idealize.ShloMosaic Idealize.ShloMosaic.TcCoe
open Cert.KernelIdeal
open Idealize.ShloMosaic.Pipeline (Dat Cfg Window)

variable (V : (c : Dev nD) → (b : Ref sig .tc) → Buf (Elt Ideal) ((c : Thread nD τ).loc b)) (c : Dev nD)

/-- Point `t`'s tile of the contraction. -/
noncomputable def part1 (t : Fin cfg1.N) (j : S3072x1024.Idx) : EReal :=
  ∑ l : Fin 1024, (show EReal from (show FVec Ideal S3072x1024 .bf16 from iblk1 V c 0 t) (ix2 (j 0) l))
    * ((show EReal from k1_pay45 (F := Ideal) (iblk1 V c 1 t) (ix2 l (j 1)))
      * (show EReal from (show FVec Ideal S8x1024 .bf16 from iblk1 V c 2 t) (ix2 (⟨l.val / 128, by omega⟩ : Fin 8) (j 1))))

/-- The product a run of points starts from. -/
noncomputable def low1 (t : Fin cfg1.N) (j : S3072x1024.Idx) : EReal :=
  ∑ r : Fin 320, (show EReal from (show FVec Ideal S3072x320 .bf16 from iblk1 V c 3 t) (ix2 (j 0) r))
    * (show EReal from dec1 (iblk1 V c 4 t) (iblk1 V c 5 t) (iblk1 V c 6 t) (ix2 r (j 1)))

/-- One point's accumulation, the eight scale rows loaded one by one. -/
theorem acc1_tile (t : Fin cfg1.N) (a : Vec Ideal S3072x1024 .f32) (i : Fin 3072) (n : Fin 1024) :
    k1_pay1 (F := Ideal) (k1_pay45 (iblk1 V c 1 t))
      (k1_pay46 (iblk1 V c 1 t) (View.ld (iblk1 V c 2 t) (Rect.unit ![0, 0] ![1, 1024] inb_S8x1024_S1x1024_0_0)))
      (k1_pay47 (iblk1 V c 1 t) (View.ld (iblk1 V c 2 t) (Rect.unit ![1, 0] ![1, 1024] inb_S8x1024_S1x1024_1_0)))
      (k1_pay48 (iblk1 V c 1 t) (View.ld (iblk1 V c 2 t) (Rect.unit ![2, 0] ![1, 1024] inb_S8x1024_S1x1024_2_0)))
      (k1_pay49 (iblk1 V c 1 t) (View.ld (iblk1 V c 2 t) (Rect.unit ![3, 0] ![1, 1024] inb_S8x1024_S1x1024_3_0)))
      (k1_pay50 (iblk1 V c 1 t) (View.ld (iblk1 V c 2 t) (Rect.unit ![4, 0] ![1, 1024] inb_S8x1024_S1x1024_4_0)))
      (k1_pay51 (iblk1 V c 1 t)) (View.ld (iblk1 V c 2 t) (Rect.unit ![5, 0] ![1, 1024] inb_S8x1024_S1x1024_5_0))
      (View.ld (iblk1 V c 2 t) (Rect.unit ![6, 0] ![1, 1024] inb_S8x1024_S1x1024_6_0))
      (View.ld (iblk1 V c 2 t) (Rect.unit ![7, 0] ![1, 1024] inb_S8x1024_S1x1024_7_0))
      a (iblk1 V c 0 t) (ix2 i n)
      = (show EReal from a (ix2 i n)) + part1 V c t (ix2 i n) := by
  refine k1_pay1_at _ _ _ _ _ _ _ _ _ _ _ i n
    (fun g => (show FVec Ideal S8x1024 .bf16 from iblk1 V c 2 t) (ix2 g n)) ?_ ?_ ?_ ?_ ?_ ?_ ?_ ?_ <;> pointwise

theorem acc1_first (t : Fin cfg1.N) (h : t.val % 16 = 0) (j : S3072x1024.Idx) :
    (outsAt1 V c t.val t.isLt).2 j = low1 V c t j + part1 V c t j := by
  idx_vars j
  rw [outsAt1_A V c t h (by omega)]
  frame_out
  refine (acc1_tile V c t _ j0 j1).trans (Ideal.add_congr ?_ rfl)
  exact k1_pay44_at (dec1 (iblk1 V c 4 t) (iblk1 V c 5 t) (iblk1 V c 6 t)) (iblk1 V c 3 t) j0 j1

theorem acc1_next (t : Fin cfg1.N) (h : ¬ t.val % 16 = 0) (j : S3072x1024.Idx) :
    (outsAt1 V c t.val t.isLt).2 j
      = (show EReal from (outsAt1 V c (t.val - 1) (Nat.lt_of_le_of_lt (Nat.sub_le _ _) t.isLt)).2 j) + part1 V c t j := by
  idx_vars j
  by_cases h1 : t.val % 16 = 15
  · rw [outsAt1_C V c t h h1]
    frame_out
    rw [read_unread_whole]
    exact acc1_tile V c t _ j0 j1
  · rw [outsAt1_B V c t h h1]
    frame_out
    rw [read_unread_whole]
    exact acc1_tile V c t _ j0 j1

theorem out1_last (t : Fin cfg1.N) (h : t.val % 16 = 15) (y : S3072x1024.Idx) :
    (outsAt1 V c t.val t.isLt).1 y = (outsAt1 V c t.val t.isLt).2 y := by
  rw [outsAt1_C V c t (by omega) h]
  frame_out
  exact congrFun (k1_pay2_eq _) _

/-- What the second call computes, over its operands: the low-rank product plus the activation row against the decoded,
    scaled matrix. -/
noncomputable def G1 (x : FVec Ideal S3072x16384 .bf16) (w : IVec S8192x13312 8) (sc : FVec Ideal S128x13312 .bf16)
    (t : FVec Ideal S3072x320 .bf16) (c8 : IVec S2x13312 8) (c3 : IVec S4x13312 32) (c2 : IVec S18x13312 32) :
    FVec Ideal S3072x13312 .bf16 :=
  fun y => (show EReal from ∑ r : Fin 320, (show EReal from t (ix2 (y 0) r))
      * (show EReal from FloatOps.sitofp (F := Ideal) FTy.f32
        (code (fun a => c8 (ix2 a (y 1))) (fun a => c3 (ix2 a (y 1))) (fun a => c2 (ix2 a (y 1))) r.val)))
    + (show EReal from ∑ l : Fin 16384, (show EReal from x (ix2 (y 0) l))
      * ((show EReal from FloatOps.sitofp (F := Ideal) FTy.f32
          ((nib l.val (w (ix2 (⟨l.val / 2, by omega⟩ : Fin 8192) (y 1)))).signExtend 32))
        * (show EReal from sc (ix2 (⟨l.val / 128, by omega⟩ : Fin 128) (y 1)))))

theorem idx1 : ∀ t : Fin cfg1.N, win1_0.index t = ![0, t.val % 16] ∧ win1_1.index t = ![t.val % 16, t.val / 16]
    ∧ win1_2.index t = ![t.val % 16, t.val / 16] ∧ win1_3.index t = ![0, 0] ∧ win1_4.index t = ![0, t.val / 16]
    ∧ win1_5.index t = ![0, t.val / 16] ∧ win1_6.index t = ![0, t.val / 16] ∧ win1_7.index t = ![0, t.val / 16] :=
  (by decide +kernel : ∀ t : Fin grid1.N, _)

theorem n1 (t : Fin cfg1.N) : t.val < 208 := t.isLt.trans_eq (by decide +kernel : cfg1.N = 208)

theorem lane1 (t : Fin cfg1.N) (k : Fin 1024) : t.val % 16 * 1024 + k.val < 16384 := by omega

theorem col1 (t : Fin cfg1.N) (n : Fin 1024) : t.val / 16 * 1024 + n.val < 13312 := by
  have := n1 t
  omega

theorem blk1_x (t : Fin cfg1.N) (i : Fin 3072) (k : Fin 1024) :
    (show FVec Ideal S3072x1024 .bf16 from iblk1 V c 0 t) (ix2 i k)
      = (show FVec Ideal S3072x16384 .bf16 from V c main_v0) (ix2 i ⟨t.val % 16 * 1024 + k.val, lane1 t k⟩) := by
  blk_ext [iblk1, idx1 t]

theorem blk1_w (t : Fin cfg1.N) (i : Fin 512) (n : Fin 1024) :
    (show IVec S512x1024 8 from iblk1 V c 1 t) (ix2 i n)
      = (show IVec S8192x13312 8 from V c main_arg1) (ix2 ⟨t.val % 16 * 512 + i.val, by omega⟩ ⟨t.val / 16 * 1024 + n.val, col1 t n⟩) := by
  blk_ext [iblk1, idx1 t]

theorem blk1_sc (t : Fin cfg1.N) (i : Fin 8) (n : Fin 1024) :
    (show FVec Ideal S8x1024 .bf16 from iblk1 V c 2 t) (ix2 i n)
      = (show FVec Ideal S128x13312 .bf16 from V c main_arg2) (ix2 ⟨t.val % 16 * 8 + i.val, by omega⟩ ⟨t.val / 16 * 1024 + n.val, col1 t n⟩) := by
  blk_ext [iblk1, idx1 t]

theorem blk1_t (t : Fin cfg1.N) (i : Fin 3072) (r : Fin 320) :
    (show FVec Ideal S3072x320 .bf16 from iblk1 V c 3 t) (ix2 i r)
      = (show FVec Ideal S3072x320 .bf16 from V c main_v19) (ix2 i r) := by
  blk_ext [iblk1, idx1 t]

theorem blk1_c8 (t : Fin cfg1.N) (i : Fin 2) (n : Fin 1024) :
    (show IVec S2x1024 8 from iblk1 V c 4 t) (ix2 i n)
      = (show IVec S2x13312 8 from V c main_v16) (ix2 i ⟨t.val / 16 * 1024 + n.val, col1 t n⟩) := by
  blk_ext [iblk1, idx1 t]

theorem blk1_c3 (t : Fin cfg1.N) (i : Fin 4) (n : Fin 1024) :
    (show IVec S4x1024 32 from iblk1 V c 5 t) (ix2 i n)
      = (show IVec S4x13312 32 from V c main_v17) (ix2 i ⟨t.val / 16 * 1024 + n.val, col1 t n⟩) := by
  blk_ext [iblk1, idx1 t]

theorem blk1_c2 (t : Fin cfg1.N) (i : Fin 18) (n : Fin 1024) :
    (show IVec S18x1024 32 from iblk1 V c 6 t) (ix2 i n)
      = (show IVec S18x13312 32 from V c main_v18) (ix2 i ⟨t.val / 16 * 1024 + n.val, col1 t n⟩) := by
  blk_ext [iblk1, idx1 t]

theorem blk1_out (t : Fin cfg1.N) (i : Fin 3072) (n : Fin 1024) :
    (win1_7.blk t).view.emb (ix2 i n : S3072x1024.Idx)
      = (ix2 i ⟨t.val / 16 * 1024 + n.val, col1 t n⟩ : S3072x13312.Idx) := by
  blk_ext [idx1 t]

theorem part1_at (t : Fin cfg1.N) (i : Fin 3072) (n : Fin 1024) :
    part1 V c t (ix2 i n) = ∑ l : Fin 1024,
      (show EReal from (show FVec Ideal S3072x16384 .bf16 from V c main_v0) (ix2 i ⟨t.val % 16 * 1024 + l.val, lane1 t l⟩))
      * ((show EReal from FloatOps.sitofp (F := Ideal) FTy.f32 ((nib (t.val % 16 * 1024 + l.val)
          ((show IVec S8192x13312 8 from V c main_arg1) (ix2 ⟨(t.val % 16 * 1024 + l.val) / 2, by omega⟩ ⟨t.val / 16 * 1024 + n.val, col1 t n⟩))).signExtend 32))
        * (show EReal from (show FVec Ideal S128x13312 .bf16 from V c main_arg2)
          (ix2 ⟨(t.val % 16 * 1024 + l.val) / 128, by omega⟩ ⟨t.val / 16 * 1024 + n.val, col1 t n⟩))) := by
  refine Finset.sum_congr rfl fun l _ => Ideal.mul_congr (blk1_x V c t i l) (Ideal.mul_congr ?_ ?_)
  · refine (pay45_at _ l n).trans ?_
    refine (congrArg (fun b => FloatOps.sitofp (F := Ideal) FTy.f32 ((nib l.val b).signExtend 32))
      (blk1_w V c t ⟨l.val / 2, by omega⟩ n)).trans ?_
    have e1 : t.val % 16 * 512 + l.val / 2 = (t.val % 16 * 1024 + l.val) / 2 := by omega
    have e2 : ∀ b, nib l.val b = nib (t.val % 16 * 1024 + l.val) b := by
      intro b
      unfold nib
      rw [show (t.val % 16 * 1024 + l.val) % 2 = l.val % 2 by omega]
    simp only [e1, e2]
  · refine (blk1_sc V c t ⟨l.val / 128, by omega⟩ n).trans ?_
    have e1 : t.val % 16 * 8 + l.val / 128 = (t.val % 16 * 1024 + l.val) / 128 := by omega
    simp only [e1]

theorem low1_at (t : Fin cfg1.N) (i : Fin 3072) (n : Fin 1024) :
    low1 V c t (ix2 i n) = ∑ r : Fin 320,
      (show EReal from (show FVec Ideal S3072x320 .bf16 from V c main_v19) (ix2 i r))
      * (show EReal from FloatOps.sitofp (F := Ideal) FTy.f32
        (code (fun a => (show IVec S2x13312 8 from V c main_v16) (ix2 a ⟨t.val / 16 * 1024 + n.val, col1 t n⟩))
          (fun a => (show IVec S4x13312 32 from V c main_v17) (ix2 a ⟨t.val / 16 * 1024 + n.val, col1 t n⟩))
          (fun a => (show IVec S18x13312 32 from V c main_v18) (ix2 a ⟨t.val / 16 * 1024 + n.val, col1 t n⟩)) r.val)) := by
  refine Finset.sum_congr rfl fun r _ => Ideal.mul_congr (blk1_t V c t i r) ?_
  rw [dec1_eq]
  refine (dec0_at _ _ _ r n).trans ?_
  rw [funext fun a => blk1_c8 V c t a n, funext fun a => blk1_c3 V c t a n, funext fun a => blk1_c2 V c t a n]

/-- What point `t` adds to the accumulator of its run; the first point of a run also puts the low-rank product in. -/
noncomputable def term1 (t : Fin cfg1.N) (j : S3072x1024.Idx) : EReal :=
  (if t.val % 16 = 0 then low1 V c t j else 0) + part1 V c t j

theorem term1_first (t : Fin cfg1.N) (h : t.val % 16 = 0) (j : S3072x1024.Idx) :
    (outsAt1 V c t.val t.isLt).2 j = (0 : EReal) + term1 V c t j := by
  rw [term1, if_pos h, zero_add]
  exact acc1_first V c t h j

theorem term1_next (t : Fin cfg1.N) (h : ¬ t.val % 16 = 0) (j : S3072x1024.Idx) :
    (outsAt1 V c t.val t.isLt).2 j
      = (show EReal from (outsAt1 V c (t.val - 1) (Nat.lt_of_le_of_lt (Nat.sub_le _ _) t.isLt)).2 j) + term1 V c t j := by
  rw [term1, if_neg h, zero_add]
  exact acc1_next V c t h j

theorem acc1_at (t : Fin cfg1.N) (h : t.val % 16 = 15) (i : Fin 3072) (n : Fin 1024) :
    (show EReal from (outsAt1 V c t.val t.isLt).2 (ix2 i n))
      = G1 (V c main_v0) (V c main_arg1) (V c main_arg2) (V c main_v19) (V c main_v16) (V c main_v17) (V c main_v18)
        (ix2 i ⟨t.val / 16 * 1024 + n.val, col1 t n⟩) := by
  have hs := Pipeline.eq_sum_fin_of_reset_step_apply_of_flush (M := EReal) (fun n h => (outsAt1 V c n h).2) 16 (fun _ => 0)
    (term1 V c) (term1_first V c) (term1_next V c) t h (ix2 i n)
  refine hs.trans ?_
  rw [zero_add]
  simp only [term1]
  rw [Finset.sum_add_distrib]
  refine Ideal.add_congr ?_ ?_
  · rw [Fin.sum_univ_succ, Finset.sum_eq_zero, add_zero]
    · refine (if_pos (show (16 * (t.val / 16) + 0) % 16 = 0 by omega)).trans ?_
      refine (low1_at V c _ i n).trans ?_
      have e : (16 * (t.val / 16) + 0) / 16 = t.val / 16 := by omega
      simp only [Fin.val_zero, e]
      rfl
    · intro s _
      rw [if_neg]
      have := s.isLt
      show ¬ (16 * (t.val / 16) + (s.val + 1)) % 16 = 0
      omega
  · refine (Finset.sum_congr rfl fun s _ => part1_at V c _ i n).trans ?_
    refine Fin.sum_mul_add_congr fun s k hl => ?_
    have e : (16 * (t.val / 16) + s.val) % 16 = s.val := by omega
    have e' : (16 * (t.val / 16) + s.val) / 16 = t.val / 16 := by omega
    simp only [e, e']
    rfl

/-- The second call's result array. -/
theorem final1 : (dat1 V c).arrAt 7 cfg1.N
    = G1 (V c main_v0) (V c main_arg1) (V c main_arg2) (V c main_v19) (V c main_v16) (V c main_v17) (V c main_v18) := by
  refine (dat1 V c).arrAt_eq_of_covers 7 _ (by decide +kernel) fun t hf y => ?_
  have ht := (flush1_7 t).mp hf
  have hy : y = (ix2 (y 0) (y 1) : S3072x1024.Idx) := eq_ix2 y
  refine Eq.trans ?_ (congrArg (G1 (V c main_v0) (V c main_arg1) (V c main_arg2) (V c main_v19) (V c main_v16) (V c main_v17) (V c main_v18))
    ((congrArg (win1_7.blk t).view.emb hy).trans (blk1_out t (y 0) (y 1)))).symm
  rw [after1_7, out1_last V c t ht]
  refine Eq.trans ?_ (acc1_at V c t ht (y 0) (y 1))
  exact congrArg (outsAt1 V c t.val t.isLt).2 hy

end Cert.KernelIdeal.Gen

end
-- ==== Proof.Value.RefParts.lean ====
module

public import proofs.«01_k».proof.Proof.Gen.ReferenceIdeal.Run
public import proofs.«01_k».proof.Proof.Value.Bits
public import proofs.«01_k».proof.Proof.Value.Nibble

@[expose] public section

set_option maxRecDepth 16384

namespace Cert.ReferenceIdeal.Value

open Idealize Idealize.ShloMosaic
open Cert.ReferenceIdeal Cert.ReferenceIdeal.Gen
open Cert.KernelIdeal.Gen (code fld2 fld3 nib)

/-- A field of a word read by shifting it back from the top: bits `k`, `k + 1`, …, the last one the sign. -/
theorem field_eq (w : BitVec 32) (n k : ℕ) (h0 : 0 < n) (h : k + n ≤ 32) :
    (w <<< (32 - n - k)).sshiftRight (32 - n) = (w.extractLsb' k n).signExtend 32 := by
  apply BitVec.eq_of_getLsbD_eq
  intro i hi
  rw [BitVec.getLsbD_sshiftRight, BitVec.getLsbD_signExtend, BitVec.msb_eq_getLsbD_last, BitVec.msb_eq_getLsbD_last]
  simp only [BitVec.getLsbD_shiftLeft, BitVec.getLsbD_extractLsb']
  by_cases hin : i < n
  · have e1 : 32 - n + i < 32 := by omega
    have e2 : ¬ 32 - n + i < 32 - n - k := by omega
    have e3 : 32 - n + i - (32 - n - k) = k + i := by omega
    have e4 : ¬ 32 ≤ i := by omega
    simp [hin, hi, e1, e2, e3, e4]
  · have e1 : ¬ 32 - n + i < 32 := by omega
    have e2 : ¬ 32 - 1 < 32 - n - k := by omega
    have e3 : 32 - 1 - (32 - n - k) = k + (n - 1) := by omega
    have e4 : ¬ 32 ≤ i := by omega
    have e5 : n - 1 < n := by omega
    simp [hin, hi, e1, e2, e3, e4, e5]

/-- The same field read by a shift to the bottom and a mask of ones. -/
theorem mask_eq (w : BitVec 32) (n k : ℕ) (h : k + n ≤ 32) (mask : BitVec 32)
    (hm : ∀ i, mask.getLsbD i = decide (i < n)) :
    w.sshiftRight k &&& mask = (w.extractLsb' k n).setWidth 32 := by
  apply BitVec.eq_of_getLsbD_eq
  intro i hi
  rw [BitVec.getLsbD_and, BitVec.getLsbD_sshiftRight, hm, BitVec.getLsbD_setWidth, BitVec.getLsbD_extractLsb']
  by_cases hin : i < n
  · have e1 : k + i < 32 := by omega
    have e4 : ¬ 32 ≤ i := by omega
    simp [hin, hi, e1, e4]
  · simp [hin]

theorem wrap2 : ∀ q : BitVec 2, Scalar.select (IntOp.cmpi CmpIPredicate.sge (q.setWidth 32) 2#32)
    (IntOp.subi (q.setWidth 32) 4#32) (q.setWidth 32) = q.signExtend 32 := by decide +kernel

theorem wrap3 : ∀ q : BitVec 3, Scalar.select (IntOp.cmpi CmpIPredicate.sge (q.setWidth 32) 4#32)
    (IntOp.subi (q.setWidth 32) 8#32) (q.setWidth 32) = q.signExtend 32 := by decide +kernel

theorem wrap4 : ∀ q : BitVec 4, Scalar.select (IntOp.cmpi CmpIPredicate.sge (q.setWidth 32) 8#32)
    (IntOp.subi (q.setWidth 32) 16#32) (q.setWidth 32) = q.signExtend 32 := by decide +kernel

theorem mask2 (w : BitVec 32) (s : Fin 16) :
    IntOp.andi (IntOp.shrsi ArithUnit.scalar w (IntOp.muli 2#32 (BitVec.ofNat 32 s))) 3#32
      = (w.extractLsb' (2 * s.val) 2).setWidth 32 := by
  have h : ∀ s : Fin 16, (IntOp.muli (2#32) (BitVec.ofNat 32 s)).toNat = 2 * (s : ℕ) := by decide
  have := s.isLt
  unfold IntOp.shrsi
  rw [if_pos (by rw [h]; omega), BitVec.sshiftRight_eq', h]
  refine mask_eq w 2 _ (by omega) _ fun i => ?_
  by_cases hi : i < 32
  · exact (by decide : ∀ i : Fin 32, (3#32).getLsbD i.val = decide (i.val < 2)) ⟨i, hi⟩
  · rw [BitVec.getLsbD_of_ge _ _ (by omega), eq_comm, decide_eq_false_iff_not]; omega

theorem mask3 (w : BitVec 32) (s : Fin 10) :
    IntOp.andi (IntOp.shrsi ArithUnit.scalar w (IntOp.muli 3#32 (BitVec.ofNat 32 s))) 7#32
      = (w.extractLsb' (3 * s.val) 3).setWidth 32 := by
  have h : ∀ s : Fin 10, (IntOp.muli (3#32) (BitVec.ofNat 32 s)).toNat = 3 * (s : ℕ) := by decide
  have := s.isLt
  unfold IntOp.shrsi
  rw [if_pos (by rw [h]; omega), BitVec.sshiftRight_eq', h]
  refine mask_eq w 3 _ (by omega) _ fun i => ?_
  by_cases hi : i < 32
  · exact (by decide : ∀ i : Fin 32, (7#32).getLsbD i.val = decide (i.val < 3)) ⟨i, hi⟩
  · rw [BitVec.getLsbD_of_ge _ _ (by omega), eq_comm, decide_eq_false_iff_not]; omega

theorem fld2_eq (w : BitVec 32) (s : Fin 16) : (w.extractLsb' (2 * s.val) 2).signExtend 32 = fld2 w s.val :=
  (field_eq w 2 (2 * s.val) (by omega) (by omega)).symm

theorem fld3_eq (w : BitVec 32) (s : Fin 10) : (w.extractLsb' (3 * s.val) 3).signExtend 32 = fld3 w s.val :=
  (field_eq w 3 (3 * s.val) (by omega) (by omega)).symm

/-- The masked fields of the packed 2-bit words, 16384 rows. -/
noncomputable def raw2_16384 (A : IVec S16384x18 32) : IVec S16384x18x16 32 :=
  andi (Host.shrsi (broadcastInDim S16384x18x16 ![0, 1, 2] bcast_S16384x18x1_S16384x18x16_0_1_2 (broadcastInDim S16384x18x1 ![0, 1] bcast_S16384x18_S16384x18x1_0_1 A))
    (broadcastInDim S16384x18x16 ![0, 1, 2] bcast_S1x1x16_S16384x18x16_0_1_2 (broadcastInDim S1x1x16 ![2] bcast_S16_S1x1x16_2 (muli (broadcastInDim S16 ![] bcast_S_S16 (constantI S_ 32 2#32)) (iotaInDim S16 32 0)))))
    (broadcastInDim S16384x18x16 ![] bcast_S_S16384x18x16 (constantI S_ 32 3#32))

/-- The decoded fields. -/
noncomputable def dec2_16384 (A : IVec S16384x18 32) : FVec Ideal S16384x18x16 .bf16 :=
  sitofp .bf16 (select (cmpi .sge (raw2_16384 A) (broadcastInDim S16384x18x16 ![] bcast_S_S16384x18x16 (constantI S_ 32 2#32)))
    (subi (raw2_16384 A) (broadcastInDim S16384x18x16 ![] bcast_S_S16384x18x16 (constantI S_ 32 4#32))) (raw2_16384 A))

theorem dec2_16384_at (A : IVec S16384x18 32) (l : Fin 16384) (g : Fin 18) (s : Fin 16) :
    dec2_16384 A (ix3 l g s) = FloatOps.sitofp (F := Ideal) FTy.f32 (fld2 (A (ix2 l g)) s.val) := by
  pointwise [dec2_16384, raw2_16384]
  rw [← fld2_eq, ← wrap2, ← mask2]
  rfl

/-- The masked fields of the packed 3-bit words, 16384 rows. -/
noncomputable def raw3_16384 (A : IVec S16384x4 32) : IVec S16384x4x10 32 :=
  andi (Host.shrsi (broadcastInDim S16384x4x10 ![0, 1, 2] bcast_S16384x4x1_S16384x4x10_0_1_2 (broadcastInDim S16384x4x1 ![0, 1] bcast_S16384x4_S16384x4x1_0_1 A))
    (broadcastInDim S16384x4x10 ![0, 1, 2] bcast_S1x1x10_S16384x4x10_0_1_2 (broadcastInDim S1x1x10 ![2] bcast_S10_S1x1x10_2 (muli (broadcastInDim S10 ![] bcast_S_S10 (constantI S_ 32 3#32)) (iotaInDim S10 32 0)))))
    (broadcastInDim S16384x4x10 ![] bcast_S_S16384x4x10 (constantI S_ 32 7#32))

/-- The decoded fields. -/
noncomputable def dec3_16384 (A : IVec S16384x4 32) : FVec Ideal S16384x4x10 .bf16 :=
  sitofp .bf16 (select (cmpi .sge (raw3_16384 A) (broadcastInDim S16384x4x10 ![] bcast_S_S16384x4x10 (constantI S_ 32 4#32)))
    (subi (raw3_16384 A) (broadcastInDim S16384x4x10 ![] bcast_S_S16384x4x10 (constantI S_ 32 8#32))) (raw3_16384 A))

theorem dec3_16384_at (A : IVec S16384x4 32) (l : Fin 16384) (g : Fin 4) (s : Fin 10) :
    dec3_16384 A (ix3 l g s) = FloatOps.sitofp (F := Ideal) FTy.f32 (fld3 (A (ix2 l g)) s.val) := by
  pointwise [dec3_16384, raw3_16384]
  rw [← fld3_eq, ← wrap3, ← mask3]
  rfl

/-- The factor: the 8-bit codes, the first 32 of the 3-bit fields, the first 286 of the 2-bit fields. -/
noncomputable def cat_16384 (A8 : IVec S16384x2 8) (A3 : IVec S16384x4 32) (A2 : IVec S16384x18 32) : FVec Ideal S16384x320 .bf16 :=
  concatenate S16384x320 1 [⟨S16384x2, (sitofp .bf16 (extsi 32 A8 natLt_8_32) : FVec Ideal S16384x2 .bf16)⟩,
    ⟨S16384x32, (extractStridedSlice S16384x32 ![0, 0] (shapeCast S16384x40 (dec3_16384 A3) shapeCasts_S16384x4x10_S16384x40) slices_S16384x40_S16384x32_0_0)⟩,
    ⟨S16384x286, (extractStridedSlice S16384x286 ![0, 0] (shapeCast S16384x288 (dec2_16384 A2) shapeCasts_S16384x18x16_S16384x288) slices_S16384x288_S16384x286_0_0)⟩]
    concatenates_S16384x2_S16384x32_S16384x286_S16384x320_d1

theorem cat_16384_at (A8 : IVec S16384x2 8) (A3 : IVec S16384x4 32) (A2 : IVec S16384x18 32) (l : Fin 16384) (q r : Fin 320)
    (hq : q.val = (r.val + 34) % 320) :
    cat_16384 A8 A3 A2 (ix2 l q) = FloatOps.sitofp (F := Ideal) FTy.f32
      (code (fun a => A8 (ix2 l a)) (fun a => A3 (ix2 l a)) (fun a => A2 (ix2 l a)) r.val) := by
  have hr := r.isLt
  pointwise [cat_16384]
  unfold code
  by_cases h1 : r.val < 286
  · rw [dif_neg (show ¬ q.val < 2 by omega), dif_neg (show ¬ q.val - 2 < 32 by omega), if_pos h1, dec2_16384_at]
    have e1 : (⟨(q.val - 2 - 32) / 16, by omega⟩ : Fin 18) = Fin.ofNat 18 (r.val / 16) :=
      Fin.ext (show (q.val - 2 - 32) / 16 = r.val / 16 % 18 by omega)
    have e2 : (q.val - 2 - 32) % 16 = r.val % 16 := by omega
    rw [e1]
    simp only [e2]
  by_cases h2 : r.val < 288
  · rw [dif_pos (show q.val < 2 by omega), if_neg h1, if_pos h2]
    have e1 : (⟨q.val, by omega⟩ : Fin 2) = Fin.ofNat 2 (r.val - 286) :=
      Fin.ext (show q.val = (r.val - 286) % 2 by omega)
    rw [e1]
    rfl
  · rw [dif_neg (show ¬ q.val < 2 by omega), dif_pos (show q.val - 2 < 32 by omega), if_neg h1, if_neg h2, dec3_16384_at]
    have e1 : (⟨(q.val - 2) / 10, by omega⟩ : Fin 4) = Fin.ofNat 4 ((r.val - 288) / 10) :=
      Fin.ext (show (q.val - 2) / 10 = (r.val - 288) / 10 % 4 by omega)
    have e2 : (q.val - 2) % 10 = (r.val - 288) % 10 := by omega
    rw [e1]
    simp only [e2]

/-- The masked fields of the packed 2-bit words, 13312 rows. -/
noncomputable def raw2_13312 (A : IVec S13312x18 32) : IVec S13312x18x16 32 :=
  andi (Host.shrsi (broadcastInDim S13312x18x16 ![0, 1, 2] bcast_S13312x18x1_S13312x18x16_0_1_2 (broadcastInDim S13312x18x1 ![0, 1] bcast_S13312x18_S13312x18x1_0_1 A))
    (broadcastInDim S13312x18x16 ![0, 1, 2] bcast_S1x1x16_S13312x18x16_0_1_2 (broadcastInDim S1x1x16 ![2] bcast_S16_S1x1x16_2 (muli (broadcastInDim S16 ![] bcast_S_S16 (constantI S_ 32 2#32)) (iotaInDim S16 32 0)))))
    (broadcastInDim S13312x18x16 ![] bcast_S_S13312x18x16 (constantI S_ 32 3#32))

/-- The decoded fields. -/
noncomputable def dec2_13312 (A : IVec S13312x18 32) : FVec Ideal S13312x18x16 .bf16 :=
  sitofp .bf16 (select (cmpi .sge (raw2_13312 A) (broadcastInDim S13312x18x16 ![] bcast_S_S13312x18x16 (constantI S_ 32 2#32)))
    (subi (raw2_13312 A) (broadcastInDim S13312x18x16 ![] bcast_S_S13312x18x16 (constantI S_ 32 4#32))) (raw2_13312 A))

theorem dec2_13312_at (A : IVec S13312x18 32) (l : Fin 13312) (g : Fin 18) (s : Fin 16) :
    dec2_13312 A (ix3 l g s) = FloatOps.sitofp (F := Ideal) FTy.f32 (fld2 (A (ix2 l g)) s.val) := by
  pointwise [dec2_13312, raw2_13312]
  rw [← fld2_eq, ← wrap2, ← mask2]
  rfl

/-- The masked fields of the packed 3-bit words, 13312 rows. -/
noncomputable def raw3_13312 (A : IVec S13312x4 32) : IVec S13312x4x10 32 :=
  andi (Host.shrsi (broadcastInDim S13312x4x10 ![0, 1, 2] bcast_S13312x4x1_S13312x4x10_0_1_2 (broadcastInDim S13312x4x1 ![0, 1] bcast_S13312x4_S13312x4x1_0_1 A))
    (broadcastInDim S13312x4x10 ![0, 1, 2] bcast_S1x1x10_S13312x4x10_0_1_2 (broadcastInDim S1x1x10 ![2] bcast_S10_S1x1x10_2 (muli (broadcastInDim S10 ![] bcast_S_S10 (constantI S_ 32 3#32)) (iotaInDim S10 32 0)))))
    (broadcastInDim S13312x4x10 ![] bcast_S_S13312x4x10 (constantI S_ 32 7#32))

/-- The decoded fields. -/
noncomputable def dec3_13312 (A : IVec S13312x4 32) : FVec Ideal S13312x4x10 .bf16 :=
  sitofp .bf16 (select (cmpi .sge (raw3_13312 A) (broadcastInDim S13312x4x10 ![] bcast_S_S13312x4x10 (constantI S_ 32 4#32)))
    (subi (raw3_13312 A) (broadcastInDim S13312x4x10 ![] bcast_S_S13312x4x10 (constantI S_ 32 8#32))) (raw3_13312 A))

theorem dec3_13312_at (A : IVec S13312x4 32) (l : Fin 13312) (g : Fin 4) (s : Fin 10) :
    dec3_13312 A (ix3 l g s) = FloatOps.sitofp (F := Ideal) FTy.f32 (fld3 (A (ix2 l g)) s.val) := by
  pointwise [dec3_13312, raw3_13312]
  rw [← fld3_eq, ← wrap3, ← mask3]
  rfl

/-- The factor: the 8-bit codes, the first 32 of the 3-bit fields, the first 286 of the 2-bit fields. -/
noncomputable def cat_13312 (A8 : IVec S13312x2 8) (A3 : IVec S13312x4 32) (A2 : IVec S13312x18 32) : FVec Ideal S13312x320 .bf16 :=
  concatenate S13312x320 1 [⟨S13312x2, (sitofp .bf16 (extsi 32 A8 natLt_8_32) : FVec Ideal S13312x2 .bf16)⟩,
    ⟨S13312x32, (extractStridedSlice S13312x32 ![0, 0] (shapeCast S13312x40 (dec3_13312 A3) shapeCasts_S13312x4x10_S13312x40) slices_S13312x40_S13312x32_0_0)⟩,
    ⟨S13312x286, (extractStridedSlice S13312x286 ![0, 0] (shapeCast S13312x288 (dec2_13312 A2) shapeCasts_S13312x18x16_S13312x288) slices_S13312x288_S13312x286_0_0)⟩]
    concatenates_S13312x2_S13312x32_S13312x286_S13312x320_d1

theorem cat_13312_at (A8 : IVec S13312x2 8) (A3 : IVec S13312x4 32) (A2 : IVec S13312x18 32) (l : Fin 13312) (q r : Fin 320)
    (hq : q.val = (r.val + 34) % 320) :
    cat_13312 A8 A3 A2 (ix2 l q) = FloatOps.sitofp (F := Ideal) FTy.f32
      (code (fun a => A8 (ix2 l a)) (fun a => A3 (ix2 l a)) (fun a => A2 (ix2 l a)) r.val) := by
  have hr := r.isLt
  pointwise [cat_13312]
  unfold code
  by_cases h1 : r.val < 286
  · rw [dif_neg (show ¬ q.val < 2 by omega), dif_neg (show ¬ q.val - 2 < 32 by omega), if_pos h1, dec2_13312_at]
    have e1 : (⟨(q.val - 2 - 32) / 16, by omega⟩ : Fin 18) = Fin.ofNat 18 (r.val / 16) :=
      Fin.ext (show (q.val - 2 - 32) / 16 = r.val / 16 % 18 by omega)
    have e2 : (q.val - 2 - 32) % 16 = r.val % 16 := by omega
    rw [e1]
    simp only [e2]
  by_cases h2 : r.val < 288
  · rw [dif_pos (show q.val < 2 by omega), if_neg h1, if_pos h2]
    have e1 : (⟨q.val, by omega⟩ : Fin 2) = Fin.ofNat 2 (r.val - 286) :=
      Fin.ext (show q.val = (r.val - 286) % 2 by omega)
    rw [e1]
    rfl
  · rw [dif_neg (show ¬ q.val < 2 by omega), dif_pos (show q.val - 2 < 32 by omega), if_neg h1, if_neg h2, dec3_13312_at]
    have e1 : (⟨(q.val - 2) / 10, by omega⟩ : Fin 4) = Fin.ofNat 4 ((r.val - 288) / 10) :=
      Fin.ext (show (q.val - 2) / 10 = (r.val - 288) / 10 % 4 by omega)
    have e2 : (q.val - 2) % 10 = (r.val - 288) % 10 := by omega
    rw [e1]
    simp only [e2]

/-- The two rows of four-bit fields of each packed row. -/
noncomputable def rawN (A : IVec S8192x13312 8) : IVec S8192x2x13312 32 :=
  concatenate S8192x2x13312 1 [⟨S8192x1x13312, (broadcastInDim S8192x1x13312 ![0, 2] bcast_S8192x13312_S8192x1x13312_0_2 (andi (extui 32 A natLt_8_32) (broadcastInDim S8192x13312 ![] bcast_S_S8192x13312 (constantI S_ 32 15#32))))⟩,
    ⟨S8192x1x13312, (broadcastInDim S8192x1x13312 ![0, 2] bcast_S8192x13312_S8192x1x13312_0_2 (Host.shrsi (extui 32 A natLt_8_32) (broadcastInDim S8192x13312 ![] bcast_S_S8192x13312 (constantI S_ 32 4#32))))⟩]
    concatenates_S8192x1x13312_S8192x1x13312_S8192x2x13312_d1

theorem low4 : ∀ b : BitVec 8, IntOp.andi (b.setWidth 32) 15#32 = (b.extractLsb' 0 4).setWidth 32 := by decide +kernel

theorem high4 : ∀ b : BitVec 8, IntOp.shrsi ArithUnit.scalar (b.setWidth 32) 4#32 = (b.extractLsb' 4 4).setWidth 32 := by
  decide +kernel

theorem rawN_at (A : IVec S8192x13312 8) (p : Fin 8192) (h : Fin 2) (n : Fin 13312) :
    rawN A (ix3 p h n) = (nib h.val (A (ix2 p n))).setWidth 32 := by
  pointwise [rawN]
  unfold nib
  by_cases h0 : h.val < 1
  · rw [dif_pos h0, if_pos (show h.val % 2 = 0 by omega)]
    exact low4 _
  · rw [dif_neg h0, if_neg (show ¬ h.val % 2 = 0 by omega)]
    exact high4 _

/-- The decoded rows. -/
noncomputable def decN (A : IVec S8192x13312 8) : FVec Ideal S8192x2x13312 .bf16 :=
  sitofp .bf16 (select (cmpi .sge (rawN A) (broadcastInDim S8192x2x13312 ![] bcast_S_S8192x2x13312 (constantI S_ 32 8#32)))
    (subi (rawN A) (broadcastInDim S8192x2x13312 ![] bcast_S_S8192x2x13312 (constantI S_ 32 16#32))) (rawN A))

theorem decN_at (A : IVec S8192x13312 8) (p : Fin 8192) (h : Fin 2) (n : Fin 13312) :
    decN A (ix3 p h n) = FloatOps.sitofp (F := Ideal) FTy.f32 ((nib h.val (A (ix2 p n))).signExtend 32) := by
  pointwise [decN]
  rw [rawN_at, ← wrap4]
  rfl

/-- The decoded matrix, each group of 128 rows times its scale row. -/
noncomputable def wT (A : IVec S8192x13312 8) (S : FVec Ideal S128x13312 .bf16) : FVec Ideal S16384x13312 .bf16 :=
  shapeCast S16384x13312 (mulf (shapeCast S128x128x13312 (decN A) shapeCasts_S8192x2x13312_S128x128x13312)
    (broadcastInDim S128x128x13312 ![0, 1, 2] bcast_S128x1x13312_S128x128x13312_0_1_2
      (broadcastInDim S128x1x13312 ![0, 2] bcast_S128x13312_S128x1x13312_0_2 S))) shapeCasts_S128x128x13312_S16384x13312

theorem wT_at (A : IVec S8192x13312 8) (S : FVec Ideal S128x13312 .bf16) (l : Fin 16384) (n : Fin 13312) :
    wT A S (ix2 l n) = (show EReal from FloatOps.sitofp (F := Ideal) FTy.f32
        ((nib l.val (A (ix2 (⟨l.val / 2, by omega⟩ : Fin 8192) n))).signExtend 32))
      * (show EReal from S (ix2 (⟨l.val / 128, by omega⟩ : Fin 128) n)) := by
  pointwise [wT]
  refine Ideal.mul_congr ?_ rfl
  rw [decN_at]
  have e1 : l.val / 128 * 64 + l.val % 128 / 2 = l.val / 2 := by omega
  have e2 : ∀ b, nib (l.val % 128 % 2) b = nib l.val b := by
    intro b
    unfold nib
    rw [show l.val % 128 % 2 % 2 = l.val % 2 by omega]
  simp only [e1, e2]

/-- The low-rank activations. -/
noncomputable def tT (A0 : FVec Ideal S3x1024x16384 .bf16) (A8 : IVec S16384x2 8) (A3 : IVec S16384x4 32) (A2 : IVec S16384x18 32)
    (vs us : FVec Ideal S320 .bf16) (sg : FVec Ideal S320 .f32) : FVec Ideal S3x1024x320 .bf16 :=
  truncf .bf16 (mulf (Host.dotGeneral dot_S3x1024x16384_S16384x320_S3x1024x320_2_0_01_1_n_n none A0 (cat_16384 A8 A3 A2))
    (broadcastInDim S3x1024x320 ![0, 1, 2] bcast_S1x1x320_S3x1024x320_0_1_2 (broadcastInDim S1x1x320 ![2] bcast_S320_S1x1x320_2
      (mulf (mulf (extf .f32 vs bitsLt_bf16_f32) sg) (extf .f32 us bitsLt_bf16_f32))))) bitsLt_bf16_f32

theorem tT_at (A0 : FVec Ideal S3x1024x16384 .bf16) (A8 : IVec S16384x2 8) (A3 : IVec S16384x4 32) (A2 : IVec S16384x18 32)
    (vs us : FVec Ideal S320 .bf16) (sg : FVec Ideal S320 .f32) (b : Fin 3) (i : Fin 1024) (q r : Fin 320)
    (hq : q.val = (r.val + 34) % 320) :
    tT A0 A8 A3 A2 vs us sg (ix3 b i q) = (show EReal from ∑ l : Fin 16384, (show EReal from A0 (ix3 b i l))
        * (show EReal from FloatOps.sitofp (F := Ideal) FTy.f32
          (code (fun a => A8 (ix2 l a)) (fun a => A3 (ix2 l a)) (fun a => A2 (ix2 l a)) r.val)))
      * ((show EReal from vs (ix1 q)) * (show EReal from sg (ix1 q)) * (show EReal from us (ix1 q))) := by
  pointwise [tT]
  exact Ideal.mul_congr (Finset.sum_congr rfl fun l _ => Ideal.mul_congr rfl (cat_16384_at A8 A3 A2 l q r hq)) rfl

/-- The reference's result over its arguments. -/
noncomputable def REF (A0 : FVec Ideal S3x1024x16384 .bf16) (A1 : IVec S8192x13312 8) (A2 : FVec Ideal S128x13312 .bf16)
    (A3 : IVec S16384x2 8) (A4 : IVec S13312x2 8) (A5 : IVec S16384x4 32) (A6 : IVec S13312x4 32) (A7 : IVec S16384x18 32)
    (A8 : IVec S13312x18 32) (A9 A10 : FVec Ideal S320 .bf16) (A11 : FVec Ideal S320 .f32) : FVec Ideal S3x1024x13312 .bf16 :=
  truncf .bf16 (addf (Host.dotGeneral dot_S3x1024x16384_S16384x13312_S3x1024x13312_2_0_01_1_n_n none A0 (wT A1 A2))
    (Host.dotGeneral dot_S3x1024x320_S13312x320_S3x1024x13312_2_1_01_0_n_n none (tT A0 A3 A5 A7 A9 A10 A11) (cat_13312 A4 A6 A8)))
    bitsLt_bf16_f32

/-- The printed run's term is this one. -/
theorem res_eq (m : (ℓ : Loc nD τ sig) → Buf (Elt Ideal) ℓ) (c : Dev nD) :
    res_out0 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) := rfl

theorem REF_at (A0 : FVec Ideal S3x1024x16384 .bf16) (A1 : IVec S8192x13312 8) (A2 : FVec Ideal S128x13312 .bf16)
    (A3 : IVec S16384x2 8) (A4 : IVec S13312x2 8) (A5 : IVec S16384x4 32) (A6 : IVec S13312x4 32) (A7 : IVec S16384x18 32)
    (A8 : IVec S13312x18 32) (A9 A10 : FVec Ideal S320 .bf16) (A11 : FVec Ideal S320 .f32) (b : Fin 3) (i : Fin 1024) (n : Fin 13312) :
    REF A0 A1 A2 A3 A4 A5 A6 A7 A8 A9 A10 A11 (ix3 b i n)
      = (show EReal from ∑ l : Fin 16384, (show EReal from A0 (ix3 b i l)) * (show EReal from wT A1 A2 (ix2 l n)))
        + (show EReal from ∑ q : Fin 320, (show EReal from tT A0 A3 A5 A7 A9 A10 A11 (ix3 b i q))
          * (show EReal from cat_13312 A4 A6 A8 (ix2 n q))) := by
  pointwise [REF]

end Cert.ReferenceIdeal.Value

end
-- ==== Proof.Value.Whole.lean ====
module

public import proofs.«01_k».proof.Proof.Value.Shrink
public import proofs.«01_k».proof.Proof.Value.Expand
public import proofs.«01_k».proof.Proof.Value.RefParts
public import proofs.«01_k».proof.Proof.WholeIdeal.Fold0

@[expose] public section

set_option maxRecDepth 16384

namespace Cert.KernelIdeal.Gen

open Idealize Idealize.ShloMosaic Idealize.ShloMosaic.TcCoe
open Cert.KernelIdeal

/-- Two pieces of a vector over the rank, put together as a column. -/
noncomputable def cat2 {φ : FTy} (a : FVec Ideal S286 φ) (b : FVec Ideal S34 φ) : FVec Ideal S320x1 φ :=
  shapeCast S320x1 (concatenate S320 0 [⟨S286, a⟩, ⟨S34, b⟩] concatenates_S286_S34_S320_d0) shapeCasts_S320_S320x1

/-- The rank order the calls use: a vector over the rank rotated by 34, as a column. -/
noncomputable def rot {φ : FTy} (a : FVec Ideal S320 φ) : FVec Ideal S320x1 φ :=
  cat2 (extractStridedSlice S286 ![34] a slices_S320_S286_34) (extractStridedSlice S34 ![0] a slices_S320_S34_0)

theorem rot_at {φ : FTy} (a : FVec Ideal S320 φ) (r q : Fin 320) (hq : q.val = (r.val + 34) % 320) :
    rot a (ix2 r 0) = a (ix1 q) := by
  have hr := r.isLt
  pointwise [rot, cat2]
  by_cases h : r.val < 286
  · rw [dif_pos h]
    exact congrArg (fun z => a (ix1 z)) (Fin.ext (show 34 + r.val = q.val by omega))
  · rw [dif_neg h]
    exact congrArg (fun z => a (ix1 z)) (Fin.ext (show r.val - 286 = q.val by omega))

/-- The batched activations as one matrix. -/
noncomputable def flat (x : FVec Ideal S3x1024x16384 .bf16) : FVec Ideal S3072x16384 .bf16 :=
  shapeCast S3072x16384 x shapeCasts_S3x1024x16384_S3072x16384

theorem flat_at (x : FVec Ideal S3x1024x16384 .bf16) (b : Fin 3) (i : Fin 1024) (l : Fin 16384) :
    flat x (ix2 ⟨b.val * 1024 + i.val, by omega⟩ l) = x (ix3 b i l) := by
  pointwise [flat]

/-- The kernel's result over its arguments. -/
noncomputable def KOUT (A0 : FVec Ideal S3x1024x16384 .bf16) (A1 : IVec S8192x13312 8) (A2 : FVec Ideal S128x13312 .bf16)
    (A3 : IVec S16384x2 8) (A4 : IVec S13312x2 8) (A5 : IVec S16384x4 32) (A6 : IVec S13312x4 32) (A7 : IVec S16384x18 32)
    (A8 : IVec S13312x18 32) (A9 A10 : FVec Ideal S320 .bf16) (A11 : FVec Ideal S320 .f32) : FVec Ideal S3x1024x13312 .bf16 :=
  shapeCast S3x1024x13312
    (G1 (flat A0) A1 A2
      (G0 (flat A0) (transpose S2x16384 [1, 0] A3 transposes_S16384x2_S2x16384_1_0)
        (transpose S4x16384 [1, 0] A5 transposes_S16384x4_S4x16384_1_0)
        (transpose S18x16384 [1, 0] A7 transposes_S16384x18_S18x16384_1_0) (rot A9) (rot A10) (rot A11))
      (transpose S2x13312 [1, 0] A4 transposes_S13312x2_S2x13312_1_0)
      (transpose S4x13312 [1, 0] A6 transposes_S13312x4_S4x13312_1_0)
      (transpose S18x13312 [1, 0] A8 transposes_S13312x18_S18x13312_1_0)) shapeCasts_S3072x13312_S3x1024x13312

theorem G0_at (x : FVec Ideal S3x1024x16384 .bf16) (A3 : IVec S16384x2 8) (A5 : IVec S16384x4 32) (A7 : IVec S16384x18 32)
    (vs us : FVec Ideal S320 .bf16) (sg : FVec Ideal S320 .f32) (b : Fin 3) (i : Fin 1024) (r q : Fin 320)
    (hq : q.val = (r.val + 34) % 320) :
    G0 (flat x) (transpose S2x16384 [1, 0] A3 transposes_S16384x2_S2x16384_1_0)
        (transpose S4x16384 [1, 0] A5 transposes_S16384x4_S4x16384_1_0)
        (transpose S18x16384 [1, 0] A7 transposes_S16384x18_S18x16384_1_0) (rot vs) (rot us) (rot sg)
        (ix2 ⟨b.val * 1024 + i.val, by omega⟩ r)
      = Cert.ReferenceIdeal.Value.tT x A3 A5 A7 vs us sg (ix3 b i q) := by
  refine Eq.trans ?_ (Cert.ReferenceIdeal.Value.tT_at x A3 A5 A7 vs us sg b i q r hq).symm
  refine Ideal.mul_congr (Finset.sum_congr rfl fun l _ => ?_)
    (Ideal.mul_congr (Ideal.mul_congr (rot_at vs r q hq) (rot_at sg r q hq)) (rot_at us r q hq))
  refine (mul_comm (G := EReal) _ _).trans (Ideal.mul_congr (flat_at x b i l) ?_)
  pointwise

theorem KOUT_eq (A0 : FVec Ideal S3x1024x16384 .bf16) (A1 : IVec S8192x13312 8) (A2 : FVec Ideal S128x13312 .bf16)
    (A3 : IVec S16384x2 8) (A4 : IVec S13312x2 8) (A5 : IVec S16384x4 32) (A6 : IVec S13312x4 32) (A7 : IVec S16384x18 32)
    (A8 : IVec S13312x18 32) (A9 A10 : FVec Ideal S320 .bf16) (A11 : FVec Ideal S320 .f32) :
    KOUT A0 A1 A2 A3 A4 A5 A6 A7 A8 A9 A10 A11
      = Cert.ReferenceIdeal.Value.REF A0 A1 A2 A3 A4 A5 A6 A7 A8 A9 A10 A11 := by
  funext j
  idx_vars j
  refine Eq.trans ?_ (Cert.ReferenceIdeal.Value.REF_at A0 A1 A2 A3 A4 A5 A6 A7 A8 A9 A10 A11 j0 j1 j2).symm
  have e : KOUT A0 A1 A2 A3 A4 A5 A6 A7 A8 A9 A10 A11 (ix3 j0 j1 j2)
      = G1 (flat A0) A1 A2
      (G0 (flat A0) (transpose S2x16384 [1, 0] A3 transposes_S16384x2_S2x16384_1_0)
        (transpose S4x16384 [1, 0] A5 transposes_S16384x4_S4x16384_1_0)
        (transpose S18x16384 [1, 0] A7 transposes_S16384x18_S18x16384_1_0) (rot A9) (rot A10) (rot A11))
      (transpose S2x13312 [1, 0] A4 transposes_S13312x2_S2x13312_1_0)
      (transpose S4x13312 [1, 0] A6 transposes_S13312x4_S4x13312_1_0)
      (transpose S18x13312 [1, 0] A8 transposes_S13312x18_S18x13312_1_0) (ix2 ⟨j0.val * 1024 + j1.val, by omega⟩ j2) := by
    pointwise [KOUT]
  refine e.trans ?_
  refine (add_comm (G := EReal) _ _).trans (Ideal.add_congr ?_ ?_)
  · exact Finset.sum_congr rfl fun l _ => Ideal.mul_congr (flat_at A0 j0 j1 l)
      (Cert.ReferenceIdeal.Value.wT_at A1 A2 l j2).symm
  · refine Eq.trans ?_ (Equiv.sum_comp (Equiv.addRight (34 : Fin 320)) (fun q : Fin 320 =>
      (show EReal from Cert.ReferenceIdeal.Value.tT A0 A3 A5 A7 A9 A10 A11 (ix3 j0 j1 q))
        * (show EReal from Cert.ReferenceIdeal.Value.cat_13312 A4 A6 A8 (ix2 j2 q))))
    refine Finset.sum_congr rfl fun r _ => ?_
    have hq : (Equiv.addRight (34 : Fin 320) r).val = (r.val + 34) % 320 := Fin.val_add r 34
    refine Ideal.mul_congr (G0_at A0 A3 A5 A7 A9 A10 A11 j0 j1 r _ hq) ?_
    refine Eq.trans ?_ (Cert.ReferenceIdeal.Value.cat_13312_at A4 A6 A8 j2 _ r hq).symm
    pointwise

variable (m : (ℓ : Loc nD τ sig) → Buf (Elt Ideal) ℓ) (ρ : Dev nD → PrngReg) (c : Dev nD)

theorem V1_v0 : V1 m ρ c main_v0 = flat (m ((c : Thread nD τ).loc main_arg0)) := by
  dsimp only [V1, W1]
  after_results_simp
  rfl

theorem V1_v4 : V1 m ρ c main_v4 = rot (φ := .bf16) (m ((c : Thread nD τ).loc main_arg9)) := by
  dsimp only [V1, W1]
  after_results_simp
  change cat2 (φ := .bf16) _ _ = cat2 _ _
  refine congrArg₂ _ ?_ ?_ <;> after_results_simp <;> rfl

theorem V1_v8 : V1 m ρ c main_v8 = rot (φ := .bf16) (m ((c : Thread nD τ).loc main_arg10)) := by
  dsimp only [V1, W1]
  after_results_simp
  change cat2 (φ := .bf16) _ _ = cat2 _ _
  refine congrArg₂ _ ?_ ?_ <;> after_results_simp <;> rfl

theorem V1_v12 : V1 m ρ c main_v12 = rot (φ := .f32) (m ((c : Thread nD τ).loc main_arg11)) := by
  dsimp only [V1, W1]
  after_results_simp
  change cat2 (φ := .f32) _ _ = cat2 _ _
  refine congrArg₂ _ ?_ ?_ <;> after_results_simp <;> rfl

theorem V1_v13 : V1 m ρ c main_v13 = transpose S2x16384 [1, 0] (show IVec S16384x2 8 from (m ((c : Thread nD τ).loc main_arg3))) transposes_S16384x2_S2x16384_1_0 := by
  dsimp only [V1, W1]
  after_results_simp

theorem V1_v14 : V1 m ρ c main_v14 = transpose S4x16384 [1, 0] (show IVec S16384x4 32 from (m ((c : Thread nD τ).loc main_arg5))) transposes_S16384x4_S4x16384_1_0 := by
  dsimp only [V1, W1]
  after_results_simp

theorem V1_v15 : V1 m ρ c main_v15 = transpose S18x16384 [1, 0] (show IVec S16384x18 32 from (m ((c : Thread nD τ).loc main_arg7))) transposes_S16384x18_S18x16384_1_0 := by
  dsimp only [V1, W1]
  after_results_simp

theorem V1_v16 : V1 m ρ c main_v16 = transpose S2x13312 [1, 0] (show IVec S13312x2 8 from (m ((c : Thread nD τ).loc main_arg4))) transposes_S13312x2_S2x13312_1_0 := by
  dsimp only [V1, W1]
  after_results_simp

theorem V1_v17 : V1 m ρ c main_v17 = transpose S4x13312 [1, 0] (show IVec S13312x4 32 from (m ((c : Thread nD τ).loc main_arg6))) transposes_S13312x4_S4x13312_1_0 := by
  dsimp only [V1, W1]
  after_results_simp

theorem V1_v18 : V1 m ρ c main_v18 = transpose S18x13312 [1, 0] (show IVec S13312x18 32 from (m ((c : Thread nD τ).loc main_arg8))) transposes_S13312x18_S18x13312_1_0 := by
  dsimp only [V1, W1]
  after_results_simp

/-- The first call's result, over the kernel's arguments. -/
theorem V2_v19 : V2 m ρ c main_v19
    = G0 (V1 m ρ c main_v0) (V1 m ρ c main_v13) (V1 m ρ c main_v14) (V1 m ρ c main_v15) (V1 m ρ c main_v4) (V1 m ρ c main_v8)
      (V1 m ρ c main_v12) :=
  (W2_arr m ρ c 7).trans (final0 (V1 m ρ) c)

/-- A buffer the first call does not write keeps its contents across it. -/
theorem V2_of (r : Ref sig .tc) (h : ∀ w : Fin cfg0.W, Pipeline.arrRef spec0 w = r → (cfg0.win w).isOut = false) :
    V2 m ρ c r = V1 m ρ c r := W2_of m ρ c r h

/-- The second call's result, over the kernel's arguments. -/
theorem V3_v20 : V3 m ρ c main_v20
    = G1 (V2 m ρ c main_v0) (V2 m ρ c main_arg1) (V2 m ρ c main_arg2) (V2 m ρ c main_v19) (V2 m ρ c main_v16)
      (V2 m ρ c main_v17) (V2 m ρ c main_v18) :=
  (W3_arr m ρ c 7).trans (final1 (V2 m ρ) c)

/-- The kernel's result buffer at the end. -/
theorem W4_out : W4 m ρ c (Proc.devRef .tc main_v21)
    = KOUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h : W4 m ρ c (Proc.devRef .tc main_v21)
      = shapeCast S3x1024x13312 (show FVec Ideal S3072x13312 .bf16 from V3 m ρ c main_v20) shapeCasts_S3072x13312_S3x1024x13312 := by
    dsimp only [W4]
    after_results_simp
    rfl
  rw [h, V3_v20, V2_v19, V2_of m ρ c main_v0 (by decide +kernel), V2_of m ρ c main_v16 (by decide +kernel),
    V2_of m ρ c main_v17 (by decide +kernel), V2_of m ρ c main_v18 (by decide +kernel), V1_v0, V1_v4, V1_v8, V1_v12, V1_v13,
    V1_v14, V1_v15, V1_v16, V1_v17, V1_v18]
  have h1 : V2 m ρ c main_arg1 = m ((c : Thread nD τ).loc main_arg1) := W2_args m ρ c main_arg1 (by decide)
  have h2 : V2 m ρ c main_arg2 = m ((c : Thread nD τ).loc main_arg2) := W2_args m ρ c main_arg2 (by decide)
  rw [h1, h2]
  rfl

end Cert.KernelIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.WholeBits.Frame
public import proofs.«01_k».proof.Proof.WholeIdeal.Frame
public import proofs.«01_k».proof.Proof.Value.Whole
public import Idealize.ShloMosaic.Lib.Claim
public import Idealize.ShloMosaic.Lib.Quiescent
public import Idealize.ShloMosaic.Adequacy
public import Idealize.ShloMosaic.Init

@[expose] public section

noncomputable section

set_option maxRecDepth 16384

namespace Cert.Proof

open Idealize.ShloMosaic Idealize.SL.Sem Cert.Kernel

section
open Cert.KernelIdeal Cert.KernelIdeal.Gen

/-- The idealized kernel's run, with its result as a function of its arguments. -/
theorem run_kernel (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
      r.2.mem ((c.tc : Thread Cert.KernelIdeal.nD Cert.KernelIdeal.τ).loc Cert.KernelIdeal.main_v21)
        = Cert.KernelIdeal.Gen.KOUT (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run _ _ _).mono (fun r hr c =>
    ⟨(hr.1 c _ (Cert.KernelIdeal.Gen.mem_uc Cert.KernelIdeal.main_v21 (by decide))).trans (Cert.KernelIdeal.Gen.W4_out m ρ c),
     (hr.1 c _ (Cert.KernelIdeal.Gen.mem_uc Cert.KernelIdeal.main_arg0 (by decide))).trans (Cert.KernelIdeal.Gen.W4_main_arg0 m ρ c),
     (hr.1 c _ (Cert.KernelIdeal.Gen.mem_uc Cert.KernelIdeal.main_arg1 (by decide))).trans (Cert.KernelIdeal.Gen.W4_main_arg1 m ρ c),
     (hr.1 c _ (Cert.KernelIdeal.Gen.mem_uc Cert.KernelIdeal.main_arg2 (by decide))).trans (Cert.KernelIdeal.Gen.W4_main_arg2 m ρ c),
     (hr.1 c _ (Cert.KernelIdeal.Gen.mem_uc Cert.KernelIdeal.main_arg3 (by decide))).trans (Cert.KernelIdeal.Gen.W4_main_arg3 m ρ c),
     (hr.1 c _ (Cert.KernelIdeal.Gen.mem_uc Cert.KernelIdeal.main_arg4 (by decide))).trans (Cert.KernelIdeal.Gen.W4_main_arg4 m ρ c),
     (hr.1 c _ (Cert.KernelIdeal.Gen.mem_uc Cert.KernelIdeal.main_arg5 (by decide))).trans (Cert.KernelIdeal.Gen.W4_main_arg5 m ρ c),
     (hr.1 c _ (Cert.KernelIdeal.Gen.mem_uc Cert.KernelIdeal.main_arg6 (by decide))).trans (Cert.KernelIdeal.Gen.W4_main_arg6 m ρ c),
     (hr.1 c _ (Cert.KernelIdeal.Gen.mem_uc Cert.KernelIdeal.main_arg7 (by decide))).trans (Cert.KernelIdeal.Gen.W4_main_arg7 m ρ c),
     (hr.1 c _ (Cert.KernelIdeal.Gen.mem_uc Cert.KernelIdeal.main_arg8 (by decide))).trans (Cert.KernelIdeal.Gen.W4_main_arg8 m ρ c),
     (hr.1 c _ (Cert.KernelIdeal.Gen.mem_uc Cert.KernelIdeal.main_arg9 (by decide))).trans (Cert.KernelIdeal.Gen.W4_main_arg9 m ρ c),
     (hr.1 c _ (Cert.KernelIdeal.Gen.mem_uc Cert.KernelIdeal.main_arg10 (by decide))).trans (Cert.KernelIdeal.Gen.W4_main_arg10 m ρ c),
     (hr.1 c _ (Cert.KernelIdeal.Gen.mem_uc Cert.KernelIdeal.main_arg11 (by decide))).trans (Cert.KernelIdeal.Gen.W4_main_arg11 m ρ c)⟩)
    (Cert.KernelIdeal.Gen.run_whole m ρ)
end

/-- The reference's arguments end as launched; it declares no semaphore, so no counter is off zero. -/
theorem quiescent_ReferenceIdeal : Cert.quiescent_ReferenceIdeal := by
  intro m g _
  exact (θ_run Cert.ReferenceIdeal.defs _ _).mono
    (fun r hr => ⟨fun c => (hr c).2, sem_eq_zero_of_no_sems (by decide) r.2⟩) (Cert.ReferenceIdeal.Value.run m g)

/-- The two runs end with equal results: each is `REF` of the shared arguments. -/
theorem algebraic : Cert.algebraic_KernelIdeal_ReferenceIdeal := by
  intro m g m' g' _ hagree
  refine ⟨fun c => Cert.KernelIdeal.Gen.KOUT (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)),
    run_kernel m g, (θ_run Cert.ReferenceIdeal.defs _ _).mono (fun r hr c => ⟨(hr c).1.trans ?_, (hr c).2⟩)
      (Cert.ReferenceIdeal.Value.run m' g')⟩
  obtain ⟨h0, h1, h2, h3, h4, h5, h6, h7, h8, h9, h10, h11⟩ := hagree c
  refine (Cert.ReferenceIdeal.Value.res_eq m' c).trans ?_
  rw [h0, h1, h2, h3, h4, h5, h6, h7, h8, h9, h10, h11]
  exact (Cert.KernelIdeal.Gen.KOUT_eq _ _ _ _ _ _ _ _ _ _ _ _).symm

/-- Every claim of the certificate. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, quiescent_ReferenceIdeal, trivial, algebraic⟩

end Cert.Proof

end
